-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![1024, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1024x2 : S_.BroadcastsInDim S1024x2 (![] : Fin 0 → Fin S1024x2.rank)

variable [Facts]

def fn_part1 {F : FTy → Type} [FloatOps F] (main_v5 : IVec S_ 1) (main_v11 : IVec S_ 1) (main_v13 : IVec S1024x2 1) (main_v15 : IVec S1024x2 1) : IVec S1024x2 1 :=
  let main_v16 : IVec S1024x2 1 := andi main_v13 main_v15
  let main_v17 : IVec S1024x2 1 := broadcastInDim S1024x2 ![] bcast_S_S1024x2 main_v5
  let main_v18 : IVec S1024x2 1 := andi main_v16 main_v17
  let main_v19 : IVec S1024x2 1 := broadcastInDim S1024x2 ![] bcast_S_S1024x2 main_v11
  let main_v20 : IVec S1024x2 1 := andi main_v18 main_v19
  main_v20

def fn {F : FTy → Type} [FloatOps F] (main_arg0 : FVec F S1024x256 .bf16) (main_arg1 : FVec F S256x64 .bf16) (main_arg2 : IVec S1024x2 32) (main_arg3 : FVec F S4x256x512 .bf16) : IVec S1024x2 1 :=
  let main_cst : FVec F S_ .bf16 := constant S_ .bf16 0xFF80#16
  let main_v0 : FVec F S1024x256 .bf16 := broadcastInDim S1024x256 ![] bcast_S_S1024x256 main_cst
  let main_v1 : IVec S1024x256 1 := cmpf .ogt main_arg0 main_v0
  let main_cst_0 : FVec F S_ .bf16 := constant S_ .bf16 0x7F80#16
  let main_v2 : FVec F S1024x256 .bf16 := broadcastInDim S1024x256 ![] bcast_S_S1024x256 main_cst_0
  let main_v3 : IVec S1024x256 1 := cmpf .olt main_arg0 main_v2
  let main_v4 : IVec S1024x256 1 := andi main_v1 main_v3
  let main_c : IVec S_ 1 := constantI S_ 1 1#1
  let main_v5 : IVec S_ 1 := (fun x v => Host.reduce IntOp.andi x v reducesTo_S1024x256_S_d0_1 h_S_) main_v4 main_c
  let main_cst_1 : FVec F S_ .bf16 := constant S_ .bf16 0xFF80#16
  let main_v6 : FVec F S256x64 .bf16 := broadcastInDim S256x64 ![] bcast_S_S256x64 main_cst_1
  let main_v7 : IVec S256x64 1 := cmpf .ogt main_arg1 main_v6
  let main_cst_2 : FVec F S_ .bf16 := constant S_ .bf16 0x7F80#16
  let main_v8 : FVec F S256x64 .bf16 := broadcastInDim S256x64 ![] bcast_S_S256x64 main_cst_2
  let main_v9 : IVec S256x64 1 := cmpf .olt main_arg1 main_v8
  let main_v10 : IVec S256x64 1 := andi main_v7 main_v9
  let main_c_3 : IVec S_ 1 := constantI S_ 1 1#1
  let main_v11 : IVec S_ 1 := (fun x v => Host.reduce IntOp.andi x v reducesTo_S256x64_S_d0_1 h_S_) main_v10 main_c_3
  let main_c_4 : IVec S_ 32 := constantI S_ 32 0#32
  let main_v12 : IVec S1024x2 32 := broadcastInDim S1024x2 ![] bcast_S_S1024x2 main_c_4
  let main_v13 : IVec S1024x2 1 := cmpi .sge main_arg2 main_v12
  let main_c_5 : IVec S_ 32 := constantI S_ 32 64#32
  let main_v14 : IVec S1024x2 32 := broadcastInDim S1024x2 ![] bcast_S_S1024x2 main_c_5
  let main_v15 : IVec S1024x2 1 := cmpi .slt main_arg2 main_v14
  fn_part1 (F := F) main_v5 main_v11 main_v13 main_v15
-- ==== Pre_routed_and_finite_ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1024x2 : S_.BroadcastsInDim S1024x2 (![] : Fin 0 → Fin S1024x2.rank)

variable [Facts]

def fn_part1 {F : FTy → Type} [FloatOps F] (main_v5 : IVec S_ 1) (main_v11 : IVec S_ 1) (main_v13 : IVec S1024x2 1) (main_v15 : IVec S1024x2 1) : IVec S1024x2 1 :=
  let main_v16 : IVec S1024x2 1 := andi main_v13 main_v15
  let main_v17 : IVec S1024x2 1 := broadcastInDim S1024x2 ![] bcast_S_S1024x2 main_v5
  let main_v18 : IVec S1024x2 1 := andi main_v16 main_v17
  let main_v19 : IVec S1024x2 1 := broadcastInDim S1024x2 ![] bcast_S_S1024x2 main_v11
  let main_v20 : IVec S1024x2 1 := andi main_v18 main_v19
  main_v20

def fn {F : FTy → Type} [FloatOps F] (main_arg0 : FVec F S1024x256 .bf16) (main_arg1 : FVec F S256x64 .bf16) (main_arg2 : IVec S1024x2 32) (main_arg3 : FVec F S64x256x512 .bf16) : IVec S1024x2 1 :=
  let main_cst : FVec F S_ .bf16 := constant S_ .bf16 0xFF80#16
  let main_v0 : FVec F S1024x256 .bf16 := broadcastInDim S1024x256 ![] bcast_S_S1024x256 main_cst
  let main_v1 : IVec S1024x256 1 := cmpf .ogt main_arg0 main_v0
  let main_cst_0 : FVec F S_ .bf16 := constant S_ .bf16 0x7F80#16
  let main_v2 : FVec F S1024x256 .bf16 := broadcastInDim S1024x256 ![] bcast_S_S1024x256 main_cst_0
  let main_v3 : IVec S1024x256 1 := cmpf .olt main_arg0 main_v2
  let main_v4 : IVec S1024x256 1 := andi main_v1 main_v3
  let main_c : IVec S_ 1 := constantI S_ 1 1#1
  let main_v5 : IVec S_ 1 := (fun x v => Host.reduce IntOp.andi x v reducesTo_S1024x256_S_d0_1 h_S_) main_v4 main_c
  let main_cst_1 : FVec F S_ .bf16 := constant S_ .bf16 0xFF80#16
  let main_v6 : FVec F S256x64 .bf16 := broadcastInDim S256x64 ![] bcast_S_S256x64 main_cst_1
  let main_v7 : IVec S256x64 1 := cmpf .ogt main_arg1 main_v6
  let main_cst_2 : FVec F S_ .bf16 := constant S_ .bf16 0x7F80#16
  let main_v8 : FVec F S256x64 .bf16 := broadcastInDim S256x64 ![] bcast_S_S256x64 main_cst_2
  let main_v9 : IVec S256x64 1 := cmpf .olt main_arg1 main_v8
  let main_v10 : IVec S256x64 1 := andi main_v7 main_v9
  let main_c_3 : IVec S_ 1 := constantI S_ 1 1#1
  let main_v11 : IVec S_ 1 := (fun x v => Host.reduce IntOp.andi x v reducesTo_S256x64_S_d0_1 h_S_) main_v10 main_c_3
  let main_c_4 : IVec S_ 32 := constantI S_ 32 0#32
  let main_v12 : IVec S1024x2 32 := broadcastInDim S1024x2 ![] bcast_S_S1024x2 main_c_4
  let main_v13 : IVec S1024x2 1 := cmpi .sge main_arg2 main_v12
  let main_c_5 : IVec S_ 32 := constantI S_ 32 64#32
  let main_v14 : IVec S1024x2 32 := broadcastInDim S1024x2 ![] bcast_S_S1024x2 main_c_5
  let main_v15 : IVec S1024x2 1 := cmpi .slt main_arg2 main_v14
  fn_part1 (F := F) main_v5 main_v11 main_v13 main_v15
-- ==== Kernel.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S64x512 : Shape := ⟨2, ![64, 512]⟩
abbrev S1024x512 : Shape := ⟨2, ![1024, 512]⟩
abbrev S960x512 : Shape := ⟨2, ![960, 512]⟩
abbrev S6 : Shape := ⟨1, ![6]⟩
abbrev S_ : Shape := ⟨0, ![]⟩
abbrev S1024x64 : Shape := ⟨2, ![1024, 64]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x2, .i32⟩
  | .hbm, ⟨3, _⟩ => ⟨S4x256x512, .bf16⟩
  | .hbm, ⟨4, _⟩ => ⟨S64x512, .f32⟩
  | .local _ .vmem, ⟨0, _⟩ => ⟨S1024x256, .bf16⟩
  | .local _ .vmem, ⟨1, _⟩ => ⟨S256x64, .bf16⟩
  | .local _ .vmem, ⟨2, _⟩ => ⟨S1024x2, .i32⟩
  | .local _ .vmem, ⟨3, _⟩ => ⟨S4x256x512, .bf16⟩
  | .local _ .vmem, ⟨4, _⟩ => ⟨S64x512, .f32⟩
  | .local _ .vmem, ⟨5, _⟩ => ⟨S1024x512, .bf16⟩
  | .local _ .vmem, ⟨6, _⟩ => ⟨S960x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v22 : BitVec 32 := Scalar.muli c4_i32_6 v20
  let c4_i32 : BitVec 32 := 4#32
  let v3 : BitVec 32 := Scalar.remsi v2 c4_i32
  let c1_i32_7 : BitVec 32 := 1#32
  let v23 : BitVec 32 := Scalar.xori v3 c1_i32_7
  let v24 : BitVec 32 := Scalar.addi v22 v23
  let c1_i32_9 : BitVec 32 := 1#32
  let v25 : BitVec 32 := Scalar.muli v24 c1_i32_9
  let v26 : BitVec 32 := Scalar.addi c0_i32_10 v25
  v26.toNat
def k0_dev2 (d0 : Dev nD) : Nat :=
  let c0_i32_15 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_11 : BitVec 32 := 1#32
  let v27 : BitVec 32 := Scalar.xori v20 c1_i32_11
  let v28 : BitVec 32 := Scalar.muli c4_i32_12 v27
  let c4_i32 : BitVec 32 := 4#32
  let v3 : BitVec 32 := Scalar.remsi v2 c4_i32
  let v29 : BitVec 32 := Scalar.addi v28 v3
  let c1_i32_14 : BitVec 32 := 1#32
  let v30 : BitVec 32 := Scalar.muli v29 c1_i32_14
  let v31 : BitVec 32 := Scalar.addi c0_i32_15 v30
  v31.toNat
def k0_dev3 (d0 : Dev nD) : Nat :=
  let c0_i32_19 : BitVec 32 := 0#32
  let c4_i32_16 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v32 : BitVec 32 := Scalar.muli c4_i32_16 v20
  let c4_i32 : BitVec 32 := 4#32
  let v3 : BitVec 32 := Scalar.remsi v2 c4_i32
  let c2_i32 : BitVec 32 := 2#32
  let v33 : BitVec 32 := Scalar.xori v3 c2_i32
  let v34 : BitVec 32 := Scalar.addi v32 v33
  let c1_i32_18 : BitVec 32 := 1#32
  let v35 : BitVec 32 := Scalar.muli v34 c1_i32_18
  let v36 : BitVec 32 := Scalar.addi c0_i32_19 v35
  v36.toNat
def k0_dev4 (d0 : Dev nD) : Nat :=
  let c0_i32_24 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_20 : BitVec 32 := 2#32
  let v37 : BitVec 32 := Scalar.xori v20 c2_i32_20
  let v38 : BitVec 32 := Scalar.muli c4_i32_21 v37
  let c4_i32 : BitVec 32 := 4#32
  let v3 : BitVec 32 := Scalar.remsi v2 c4_i32
  let v39 : BitVec 32 := Scalar.addi v38 v3
  let c1_i32_23 : BitVec 32 := 1#32
  let v40 : BitVec 32 := Scalar.muli v39 c1_i32_23
  let v41 : BitVec 32 := Scalar.addi c0_i32_24 v40
  v41.toNat
def k0_dev5 (d0 : Dev nD) : Nat :=
  let c0_i32_28 : BitVec 32 := 0#32
  let c4_i32_25 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v42 : BitVec 32 := Scalar.muli c4_i32_25 v20
  let c4_i32 : BitVec 32 := 4#32
  let v3 : BitVec 32 := Scalar.remsi v2 c4_i32
  let c3_i32 : BitVec 32 := 3#32
  let v43 : BitVec 32 := Scalar.xori v3 c3_i32
  let v44 : BitVec 32 := Scalar.addi v42 v43
  let c1_i32_27 : BitVec 32 := 1#32
  let v45 : BitVec 32 := Scalar.muli v44 c1_i32_27
  let v46 : BitVec 32 := Scalar.addi c0_i32_28 v45
  v46.toNat
def k0_dev6 (d0 : Dev nD) : Nat :=
  let c0_i32_33 : BitVec 32 := 0#32
  let c4_i32_30 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_29 : BitVec 32 := 3#32
  let v47 : BitVec 32 := Scalar.xori v20 c3_i32_29
  let v48 : BitVec 32 := Scalar.muli c4_i32_30 v47
  let c4_i32 : BitVec 32 := 4#32
  let v3 : BitVec 32 := Scalar.remsi v2 c4_i32
  let v49 : BitVec 32 := Scalar.addi v48 v3
  let c1_i32_32 : BitVec 32 := 1#32
  let v50 : BitVec 32 := Scalar.muli v49 c1_i32_32
  let v51 : BitVec 32 := Scalar.addi c0_i32_33 v50
  v51.toNat
def k0_off1 (d0 : Dev nD) (c1_i32_92 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v212 : BitVec 32 := Scalar.xori v3 c1_i32_92
  let c256_i32 : BitVec 32 := 256#32
  let v213 : BitVec 32 := Scalar.muli v212 c256_i32
  let c0_i32_100 : BitVec 32 := 0#32
  ![v213.toNat, 0]
def k0_dev7 (d0 : Dev nD) : Nat :=
  let c0_i32_97 : BitVec 32 := 0#32
  let c4_i32_93 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v214 : BitVec 32 := Scalar.muli c4_i32_93 v20
  let c4_i32 : BitVec 32 := 4#32
  let v3 : BitVec 32 := Scalar.remsi v2 c4_i32
  let c1_i32_92 : BitVec 32 := 1#32
  let v212 : BitVec 32 := Scalar.xori v3 c1_i32_92
  let v215 : BitVec 32 := Scalar.addi v214 v212
  let c1_i32_96 : BitVec 32 := 1#32
  let v216 : BitVec 32 := Scalar.muli v215 c1_i32_96
  let v217 : BitVec 32 := Scalar.addi c0_i32_97 v216
  v217.toNat
def k0_dev8 (d0 : Dev nD) : Nat :=
  let c0_i32_107 : BitVec 32 := 0#32
  let c4_i32_103 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v226 : BitVec 32 := Scalar.muli c4_i32_103 v20
  let c4_i32 : BitVec 32 := 4#32
  let v3 : BitVec 32 := Scalar.remsi v2 c4_i32
  let c2_i32_101 : BitVec 32 := 2#32
  let v224 : BitVec 32 := Scalar.xori v3 c2_i32_101
  let v227 : BitVec 32 := Scalar.addi v226 v224
  let c1_i32_106 : BitVec 32 := 1#32
  let v228 : BitVec 32 := Scalar.muli v227 c1_i32_106
  let v229 : BitVec 32 := Scalar.addi c0_i32_107 v228
  v229.toNat
def k0_dev9 (d0 : Dev nD) : Nat :=
  let c0_i32_117 : BitVec 32 := 0#32
  let c4_i32_113 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v238 : BitVec 32 := Scalar.muli c4_i32_113 v20
  let c4_i32 : BitVec 32 := 4#32
  let v3 : BitVec 32 := Scalar.remsi v2 c4_i32
  let c3_i32_111 : BitVec 32 := 3#32
  let v236 : BitVec 32 := Scalar.xori v3 c3_i32_111
  let v239 : BitVec 32 := Scalar.addi v238 v236
  let c1_i32_116 : BitVec 32 := 1#32
  let v240 : BitVec 32 := Scalar.muli v239 c1_i32_116
  let v241 : BitVec 32 := Scalar.addi c0_i32_117 v240
  v241.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_159 : BitVec 32 := 256#32
  let v278 : BitVec 32 := Scalar.muli v3 c256_i32_159
  let v279 : Index := Scalar.indexCast v278
  let c0_160 : Index := 0#32
  ![v279.toNat, 0]
def k0_off3 (d0 : Dev nD) (c1_i32_169 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_170 : BitVec 32 := 256#32
  let v293 : BitVec 32 := Scalar.muli v3 c256_i32_170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v292 : BitVec 32 := Scalar.xori v20 c1_i32_169
  let c64_i32 : BitVec 32 := 64#32
  let v294 : BitVec 32 := Scalar.muli v292 c64_i32
  let v295 : BitVec 32 := Scalar.addi v293 v294
  let c0_i32_177 : BitVec 32 := 0#32
  ![v295.toNat, 0]
def k0_dev10 (d0 : Dev nD) : Nat :=
  let c0_i32_175 : BitVec 32 := 0#32
  let c4_i32_171 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_169 : BitVec 32 := 1#32
  let v292 : BitVec 32 := Scalar.xori v20 c1_i32_169
  let v296 : BitVec 32 := Scalar.muli c4_i32_171 v292
  let c4_i32 : BitVec 32 := 4#32
  let v3 : BitVec 32 := Scalar.remsi v2 c4_i32
  let v297 : BitVec 32 := Scalar.addi v296 v3
  let c1_i32_174 : BitVec 32 := 1#32
  let v298 : BitVec 32 := Scalar.muli v297 c1_i32_174
  let v299 : BitVec 32 := Scalar.addi c0_i32_175 v298
  v299.toNat
def k0_dev11 (d0 : Dev nD) : Nat :=
  let c0_i32_185 : BitVec 32 := 0#32
  let c4_i32_181 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_178 : BitVec 32 := 2#32
  let v306 : BitVec 32 := Scalar.xori v20 c2_i32_178
  let v310 : BitVec 32 := Scalar.muli c4_i32_181 v306
  let c4_i32 : BitVec 32 := 4#32
  let v3 : BitVec 32 := Scalar.remsi v2 c4_i32
  let v311 : BitVec 32 := Scalar.addi v310 v3
  let c1_i32_184 : BitVec 32 := 1#32
  let v312 : BitVec 32 := Scalar.muli v311 c1_i32_184
  let v313 : BitVec 32 := Scalar.addi c0_i32_185 v312
  v313.toNat
def k0_dev12 (d0 : Dev nD) : Nat :=
  let c0_i32_194 : BitVec 32 := 0#32
  let c4_i32_191 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_188 : BitVec 32 := 3#32
  let v320 : BitVec 32 := Scalar.xori v20 c3_i32_188
  let v324 : BitVec 32 := Scalar.muli c4_i32_191 v320
  let c4_i32 : BitVec 32 := 4#32
  let v3 : BitVec 32 := Scalar.remsi v2 c4_i32
  let v325 : BitVec 32 := Scalar.addi v324 v3
  let c1_i32_193 : BitVec 32 := 1#32
  let v326 : BitVec 32 := Scalar.muli v325 c1_i32_193
  let v327 : BitVec 32 := Scalar.addi c0_i32_194 v326
  v327.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_236 : BitVec 32 := 256#32
  let v364 : BitVec 32 := Scalar.muli v3 c256_i32_236
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32_237 : BitVec 32 := 64#32
  let v365 : BitVec 32 := Scalar.muli v20 c64_i32_237
  let v366 : BitVec 32 := Scalar.addi v364 v365
  let v367 : Index := Scalar.indexCast v366
  let c0_238 : Index := 0#32
  ![v367.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1024x256x512 : Shape := ⟨3, ![1024, 256, 512]⟩
abbrev S1024x512 : Shape := ⟨2, ![1024, 512]⟩

abbrev nBuf : Space → Nat
  | .hbm => 48
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x2, .i32⟩
  | .hbm, ⟨3, _⟩ => ⟨S64x256x512, .bf16⟩
  | .hbm, ⟨4, _⟩ => ⟨S1024x256, .f32⟩
  | .hbm, ⟨5, _⟩ => ⟨S256x64, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x64, .f32⟩
  | .hbm, ⟨17, _⟩ => ⟨S1024x64, .f32⟩
  | .hbm, ⟨18, _⟩ => ⟨S64x256x512, .f32⟩
  | .hbm, ⟨19, _⟩ => ⟨S_, .i32⟩
  | .hbm, ⟨20, _⟩ => ⟨S1024x2, .i32⟩
  | .hbm, ⟨21, _⟩ => ⟨S1024x2, .i1⟩
  | .hbm, ⟨22, _⟩ => ⟨S_, .i32⟩
  | .hbm, ⟨23, _⟩ => ⟨S1024x2, .i32⟩
  | .hbm, ⟨24, _⟩ => ⟨S1024x2, .i32⟩
  | .hbm, ⟨25, _⟩ => ⟨S1024x2, .i32⟩
  | .hbm, ⟨26, _⟩ => ⟨S1024x2x1, .i32⟩
  | .hbm, ⟨27, _⟩ => ⟨S1024x2, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x1, .i32⟩
  | .hbm, ⟨32, _⟩ => ⟨S1024, .i32⟩
  | .hbm, ⟨33, _⟩ => ⟨S1024x1, .i32⟩
  | .hbm, ⟨34, _⟩ => ⟨S1024x256x512, .f32⟩
  | .hbm, ⟨35, _⟩ => ⟨S1024x1, .i32⟩
  | .hbm, ⟨36, _⟩ => ⟨S1024, .i32⟩
  | .hbm, ⟨37, _⟩ => ⟨S1024x1, .i32⟩
  | .hbm, ⟨38, _⟩ => ⟨S1024x256x512, .f32⟩
  | .hbm, ⟨39, _⟩ => ⟨S1024x512, .f32⟩
  | .hbm, ⟨40, _⟩ => ⟨S1024x512, .f32⟩
  | .hbm, ⟨41, _⟩ => ⟨S1024x1, .f32⟩
  | .hbm, ⟨42, _⟩ => ⟨S1024x512, .f32⟩
  | .hbm, ⟨43, _⟩ => ⟨S1024x512, .f32⟩
  | .hbm, ⟨44, _⟩ => ⟨S1024x1, .f32⟩
  | .hbm, ⟨45, _⟩ => ⟨S1024x512, .f32⟩
  | .hbm, ⟨46, _⟩ => ⟨S1024x512, .f32⟩
  | .hbm, ⟨47, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Mesh.lean ====
/-
# The mesh: who exchanges what with whom, and where

Device `c = 4·z + q` of the sixteen stands in a 4 × 4 square: `q` its column, `z` its row. It exchanges with six
mates, three in its row (`q` changed by exclusive or with 1, 2, 3) and three in its column (`z` changed so). Exclusive or
by `4·t` changes `z` by `t`, so mate `j` of `c` is `c` exclusive or `mask j`, and being mate `j` is symmetric.

The kernel keeps its partial result in a 1024-row buffer whose 64-row chunks are permuted so that the chunks for column
`q` are the 256 rows from `256·q`, and there the chunk for row `z` the 64 rows from `64·z`; what the mates send lands in six
slots of a second buffer, three of 256 rows, then three of 64.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pointwise.Index
public import Idealize.ShloMosaic.Lib.Tactic

@[expose] public section

noncomputable section

namespace Cert.MoE

open Cert.KernelIdeal Cert.KernelIdeal.Gen
open Idealize.ShloMosaic Idealize.ShloMosaic.TcCoe

variable {F : FTy → Type} [FloatOps F]

/-! ## Mates -/

/-- What mate `j` is reached by: 1, 2, 3 change the column, 4, 8, 12 the row. -/
def mask (j : Fin 6) : ℕ := ![1, 2, 3, 4, 8, 12] j

theorem mask_lt (j : Fin 6) : mask j < 16 := by revert j; decide

/-- Mate `j` of device `c`. -/
def mate (j : Fin 6) (c : Dev nD) : Dev nD :=
  ⟨c.val ^^^ mask j, Nat.xor_lt_two_pow (n := 4) c.isLt (mask_lt j)⟩

theorem mate_mate (j : Fin 6) (c : Dev nD) : mate j (mate j c) = c := by revert j c; decide +kernel

/-- Being mate `j` of each other, as a permutation of the devices. -/
def mateEquiv (j : Fin 6) : Dev nD ≃ Dev nD := ⟨mate j, mate j, mate_mate j, mate_mate j⟩

/-- Device `c`'s column and row. -/
def qOf (c : Dev nD) : Fin 4 := ⟨c.val % 4, Nat.mod_lt _ (by decide)⟩
def zOf (c : Dev nD) : Fin 4 := ⟨c.val / 4, Nat.div_lt_of_lt_mul (by have := c.isLt; simpa [nD] using this)⟩

/-- The three row mates as `mate`'s first three, the three column mates as its last three. -/
def rowJ (t : Fin 3) : Fin 6 := Fin.castAdd 3 t
def colJ (t : Fin 3) : Fin 6 := Fin.natAdd 3 t

theorem zOf_rowMate (t : Fin 3) (c : Dev nD) : zOf (mate (rowJ t) c) = zOf c := by revert t c; decide +kernel
theorem qOf_colMate (t : Fin 3) (c : Dev nD) : qOf (mate (colJ t) c) = qOf c := by revert t c; decide +kernel

/-! ## The kernel's device and offset computations in closed form -/

theorem dev1_eq (c : Dev nD) : (⟨k0_dev1 c, k0_dev1_lt c⟩ : Dev nD) = mate 0 c := by revert c; decide +kernel
theorem dev2_eq (c : Dev nD) : (⟨k0_dev2 c, k0_dev2_lt c⟩ : Dev nD) = mate 3 c := by revert c; decide +kernel
theorem dev3_eq (c : Dev nD) : (⟨k0_dev3 c, k0_dev3_lt c⟩ : Dev nD) = mate 1 c := by revert c; decide +kernel
theorem dev4_eq (c : Dev nD) : (⟨k0_dev4 c, k0_dev4_lt c⟩ : Dev nD) = mate 4 c := by revert c; decide +kernel
theorem dev5_eq (c : Dev nD) : (⟨k0_dev5 c, k0_dev5_lt c⟩ : Dev nD) = mate 2 c := by revert c; decide +kernel
theorem dev6_eq (c : Dev nD) : (⟨k0_dev6 c, k0_dev6_lt c⟩ : Dev nD) = mate 5 c := by revert c; decide +kernel
theorem dev7_eq (c : Dev nD) : (⟨k0_dev7 c, k0_dev7_lt c⟩ : Dev nD) = mate (rowJ 0) c := by revert c; decide +kernel
theorem dev8_eq (c : Dev nD) : (⟨k0_dev8 c, k0_dev8_lt c⟩ : Dev nD) = mate (rowJ 1) c := by revert c; decide +kernel
theorem dev9_eq (c : Dev nD) : (⟨k0_dev9 c, k0_dev9_lt c⟩ : Dev nD) = mate (rowJ 2) c := by revert c; decide +kernel
theorem dev10_eq (c : Dev nD) : (⟨k0_dev10 c, k0_dev10_lt c⟩ : Dev nD) = mate (colJ 0) c := by revert c; decide +kernel
theorem dev11_eq (c : Dev nD) : (⟨k0_dev11 c, k0_dev11_lt c⟩ : Dev nD) = mate (colJ 1) c := by revert c; decide +kernel
theorem dev12_eq (c : Dev nD) : (⟨k0_dev12 c, k0_dev12_lt c⟩ : Dev nD) = mate (colJ 2) c := by revert c; decide +kernel

/-- Where the rows for the row mate `t` start; -/
theorem off1_eq (c : Dev nD) (t : Fin 3) :
    k0_off1 c (BitVec.ofNat 32 (1 + t.val)) = ![256 * (qOf (mate (rowJ t) c)).val, 0] := by
  revert c t; decide +kernel
/-- where the device's own 256 rows start; -/
theorem off2_eq (c : Dev nD) : k0_off2 c = ![256 * (qOf c).val, 0] := by revert c; decide +kernel
/-- in them, where the rows for the column mate `t` start; -/
theorem off3_eq (c : Dev nD) (t : Fin 3) :
    k0_off3 c (BitVec.ofNat 32 (1 + t.val)) = ![256 * (qOf c).val + 64 * (zOf (mate (colJ t) c)).val, 0] := by
  revert c t; decide +kernel
/-- where the device's own 64 rows start. -/
theorem off4_eq (c : Dev nD) : k0_off4 c = ![256 * (qOf c).val + 64 * (zOf c).val, 0] := by revert c; decide +kernel

/-! ## Rows of the two buffers -/

/-- The contents of the partial-result buffer, and of the landing buffer. -/
abbrev PBuf (F : FTy → Type) : Type := S1024x512.Idx → Elt F .bf16
abbrev SBuf (F : FTy → Type) : Type := S960x512.Idx → Elt F .bf16

/-- The `n` rows from row `lo` of the partial-result buffer, of the landing buffer. -/
def pRows (lo n : ℕ) : Finset S1024x512.Idx := Finset.univ.filter fun i => lo ≤ (i 0).val ∧ (i 0).val < lo + n
def sRows (lo n : ℕ) : Finset S960x512.Idx := Finset.univ.filter fun i => lo ≤ (i 0).val ∧ (i 0).val < lo + n

theorem mem_pRows {lo n : ℕ} {i : S1024x512.Idx} : i ∈ pRows lo n ↔ lo ≤ (i 0).val ∧ (i 0).val < lo + n := by
  simp [pRows]
theorem mem_sRows {lo n : ℕ} {i : S960x512.Idx} : i ∈ sRows lo n ↔ lo ≤ (i 0).val ∧ (i 0).val < lo + n := by
  simp [sRows]

/-- The rows of the landing buffer that slot `j` is, and how many. -/
def slotLo (j : Fin 6) : ℕ := ![0, 256, 512, 768, 832, 896] j
def slotN (j : Fin 6) : ℕ := ![256, 256, 256, 64, 64, 64] j
abbrev slot (j : Fin 6) : Finset S960x512.Idx := sRows (slotLo j) (slotN j)

/-- The slots are disjoint and make up the landing buffer. -/
theorem slot_disjoint (j j' : Fin 6) (h : j ≠ j') : Disjoint (slot j) (slot j') := by
  refine Finset.disjoint_left.2 fun i hi hi' => ?_
  rw [mem_sRows] at hi hi'
  revert h hi hi'
  generalize (i 0).val = r
  fin_cases j <;> fin_cases j' <;> simp [slotLo, slotN] <;> omega

theorem slot_cover : Finset.univ.biUnion slot = Finset.univ := by
  refine Finset.eq_univ_of_forall fun i => Finset.mem_biUnion.2 ?_
  have hi : (i 0).val < 960 := (i 0).isLt
  simp only [mem_sRows, Finset.mem_univ, true_and]
  by_cases h0 : (i 0).val < 256; · exact ⟨0, by simp [slotLo, slotN]; omega⟩
  by_cases h1 : (i 0).val < 512; · exact ⟨1, by simp [slotLo, slotN]; omega⟩
  by_cases h2 : (i 0).val < 768; · exact ⟨2, by simp [slotLo, slotN]; omega⟩
  by_cases h3 : (i 0).val < 832; · exact ⟨3, by simp [slotLo, slotN]; omega⟩
  by_cases h4 : (i 0).val < 896; · exact ⟨4, by simp [slotLo, slotN]; omega⟩
  exact ⟨5, by simp [slotLo, slotN]; omega⟩

/-- The element set of a slice of whole rows of either buffer. -/
theorem set_pSlice {n lo : ℕ} {off : Fin 2 → ℕ} {sz : Fin 2 → ℕ} (h : off = ![lo, 0]) (hs : sz = ![n, 512])
    (inb : ∀ a, off a + sz a ≤ S1024x512.size a) :
    ((View.whole (cc0_scratch0 : Ref sig .tc)).slice (Rect.unit (s := S1024x512) off sz inb)).set = pRows lo n := by
  subst h; subst hs
  rw [View.set_slice_whole]
  ext i
  rw [Rect.mem_set_unit, mem_pRows]
  have h1 : (i 1).val < 512 := (i 1).isLt
  exact ⟨fun h => h 0, fun h a => by
    match a with
    | ⟨0, _⟩ => exact h
    | ⟨1, _⟩ => exact ⟨Nat.zero_le _, by simpa using h1⟩⟩

theorem set_sSlice {n lo : ℕ} {off : Fin 2 → ℕ} {sz : Fin 2 → ℕ} (h : off = ![lo, 0]) (hs : sz = ![n, 512])
    (inb : ∀ a, off a + sz a ≤ S960x512.size a) :
    ((View.whole (cc0_scratch1 : Ref sig .tc)).slice (Rect.unit (s := S960x512) off sz inb)).set = sRows lo n := by
  subst h; subst hs
  rw [View.set_slice_whole]
  ext i
  rw [Rect.mem_set_unit, mem_sRows]
  have h1 : (i 1).val < 512 := (i 1).isLt
  exact ⟨fun h => h 0, fun h a => by
    match a with
    | ⟨0, _⟩ => exact h
    | ⟨1, _⟩ => exact ⟨Nat.zero_le _, by simpa using h1⟩⟩

end Cert.MoE

end
-- ==== Proof.Contents.lean ====
/-
# What the buffers hold

Device `c`'s accumulator over its four experts, the partial-result buffer filled from it chunk by chunk (`part`), the same
buffer once the row mates' contributions to the device's own 256 rows are added (`part1`), the landing buffer when all
six slots have arrived (`landed`), and the device's 64 rows of the result (`outF`) — each a function of the launch's
memory, over any float type.
-/
module

public import proofs.«01_k».proof.Proof.Mesh
public import proofs.«01_k».proof.Proof.Gen.KernelIdeal.Frame
public import Idealize.ShloMosaic.Lib.Pointwise

@[expose] public section

set_option maxRecDepth 16384

noncomputable section

namespace Cert.MoE

open Cert.KernelIdeal Cert.KernelIdeal.Gen
open Idealize.ShloMosaic Idealize.ShloMosaic.TcCoe

variable {F : FTy → Type} [FloatOps F]

/-! ## Rows of an array -/

/-- The `n` rows from row `lo` of an array of `R` rows of 512. -/
def rows {α : Type} {R n : ℕ} (f : (⟨2, ![R, 512]⟩ : Shape).Idx → α) (lo : ℕ) (h : lo + n ≤ R) : (⟨2, ![n, 512]⟩ : Shape).Idx → α :=
  fun y => f (ix2 ⟨lo + (y 0).val, lt_of_lt_of_le (Nat.add_lt_add_left (y 0).isLt lo) h⟩ (y 1))

theorem big_inb (q : Fin 4) : 256 * q.val + 256 ≤ 1024 := by have := q.isLt; omega
theorem small_inb (q z : Fin 4) : 256 * q.val + 64 * z.val + 64 ≤ 1024 := by have := q.isLt; have := z.isLt; omega

/-- The 256 rows for column `q`; in them the 64 rows for row `z`. -/
abbrev big (f : PBuf F) (q : Fin 4) : S256x512.Idx → Elt F .bf16 := rows f (256 * q.val) (big_inb q)
abbrev small (f : PBuf F) (q z : Fin 4) : S64x512.Idx → Elt F .bf16 := rows f (256 * q.val + 64 * z.val) (small_inb q z)

section Unit
variable {R n lo : ℕ} {off sz : Fin 2 → ℕ}

/-- Where a slice of whole rows puts its element `y`. -/
theorem unit_emb (h : lo + n ≤ R) (inb : ∀ a, ![lo, 0] a + ![n, 512] a ≤ (⟨2, ![R, 512]⟩ : Shape).size a)
    (y : (⟨2, ![n, 512]⟩ : Shape).Idx) :
    (Rect.unit (s := ⟨2, ![R, 512]⟩) ![lo, 0] ![n, 512] inb).emb y = ix2 ⟨lo + (y 0).val, lt_of_lt_of_le (Nat.add_lt_add_left (y 0).isLt lo) h⟩ (y 1) := by
  funext a
  apply Fin.ext
  match a with
  | ⟨0, _⟩ => show lo + 1 * (y 0).val = lo + (y 0).val; omega
  | ⟨1, _⟩ => show 0 + 1 * (y 1).val = (y 1).val; omega

end Unit

/-- A load of whole rows of the partial-result buffer reads those rows; -/
theorem read_p {n lo : ℕ} {off : Fin 2 → ℕ} (ho : off = ![lo, 0]) (h : lo + n ≤ 1024)
    (inb : ∀ a, off a + (![n, 512] : Fin 2 → ℕ) a ≤ S1024x512.size a) (f : PBuf F) :
    ((View.whole (cc0_scratch0 : Ref sig .tc)).slice (Rect.unit (s := S1024x512) off ![n, 512] inb)).read (Elt F) f = rows f lo h := by
  subst ho
  funext y
  exact congrArg f (unit_emb h inb y)
/-- of the landing buffer; -/
theorem read_s {n lo : ℕ} {off : Fin 2 → ℕ} (ho : off = ![lo, 0]) (h : lo + n ≤ 960)
    (inb : ∀ a, off a + (![n, 512] : Fin 2 → ℕ) a ≤ S960x512.size a) (f : SBuf F) :
    ((View.whole (cc0_scratch1 : Ref sig .tc)).slice (Rect.unit (s := S960x512) off ![n, 512] inb)).read (Elt F) f = rows f lo h := by
  subst ho
  funext y
  exact congrArg f (unit_emb h inb y)

/-- A store to whole rows leaves its argument there, -/
theorem write_p_mem {n lo : ℕ} {off : Fin 2 → ℕ} (ho : off = ![lo, 0]) (h : lo + n ≤ 1024)
    (inb : ∀ a, off a + (![n, 512] : Fin 2 → ℕ) a ≤ S1024x512.size a) (f : PBuf F) (w : (⟨2, ![n, 512]⟩ : Shape).Idx → Elt F .bf16)
    (i : S1024x512.Idx) (h0 : lo ≤ (i 0).val) (h1 : (i 0).val < lo + n) :
    ((View.whole (cc0_scratch0 : Ref sig .tc)).slice (Rect.unit (s := S1024x512) off ![n, 512] inb)).write (Elt F) f w Finset.univ i
      = w (ix2 ⟨(i 0).val - lo, by omega⟩ (i 1)) := by
  subst ho
  have hi : i = ((View.whole (cc0_scratch0 : Ref sig .tc)).slice (Rect.unit (s := S1024x512) ![lo, 0] ![n, 512] inb)).emb
      (ix2 ⟨(i 0).val - lo, by omega⟩ (i 1)) := by
    refine Eq.trans ?_ (unit_emb h inb _).symm
    funext a
    apply Fin.ext
    match a with
    | ⟨0, _⟩ => show (i 0).val = lo + ((i 0).val - lo); omega
    | ⟨1, _⟩ => rfl
  conv_lhs => rw [hi]
  rw [View.write_emb_of_mem _ _ (Finset.mem_univ _)]
  rfl
theorem write_s_mem {n lo : ℕ} {off : Fin 2 → ℕ} (ho : off = ![lo, 0]) (h : lo + n ≤ 960)
    (inb : ∀ a, off a + (![n, 512] : Fin 2 → ℕ) a ≤ S960x512.size a) (f : SBuf F) (w : (⟨2, ![n, 512]⟩ : Shape).Idx → Elt F .bf16)
    (i : S960x512.Idx) (h0 : lo ≤ (i 0).val) (h1 : (i 0).val < lo + n) :
    ((View.whole (cc0_scratch1 : Ref sig .tc)).slice (Rect.unit (s := S960x512) off ![n, 512] inb)).write (Elt F) f w Finset.univ i
      = w (ix2 ⟨(i 0).val - lo, by omega⟩ (i 1)) := by
  subst ho
  have hi : i = ((View.whole (cc0_scratch1 : Ref sig .tc)).slice (Rect.unit (s := S960x512) ![lo, 0] ![n, 512] inb)).emb
      (ix2 ⟨(i 0).val - lo, by omega⟩ (i 1)) := by
    refine Eq.trans ?_ (unit_emb h inb _).symm
    funext a
    apply Fin.ext
    match a with
    | ⟨0, _⟩ => show (i 0).val = lo + ((i 0).val - lo); omega
    | ⟨1, _⟩ => rfl
  conv_lhs => rw [hi]
  rw [View.write_emb_of_mem _ _ (Finset.mem_univ _)]
  rfl

/-- and leaves the other rows alone. -/
theorem write_p_not_mem {n lo : ℕ} {off : Fin 2 → ℕ} (ho : off = ![lo, 0])
    (inb : ∀ a, off a + (![n, 512] : Fin 2 → ℕ) a ≤ S1024x512.size a) (f : PBuf F) (w : (⟨2, ![n, 512]⟩ : Shape).Idx → Elt F .bf16)
    (i : S1024x512.Idx) (h : ¬ (lo ≤ (i 0).val ∧ (i 0).val < lo + n)) :
    ((View.whole (cc0_scratch0 : Ref sig .tc)).slice (Rect.unit (s := S1024x512) off ![n, 512] inb)).write (Elt F) f w Finset.univ i = f i := by
  refine View.write_of_not_mem _ _ _ fun hm => h ?_
  have hm' := View.setOn_subset_set _ _ hm
  rw [set_pSlice ho rfl inb, mem_pRows] at hm'
  exact hm'

/-! ## The staged arguments -/

variable (m : (ℓ : Loc nD τ sig) → Buf (Elt F) ℓ)

/-- Device `c`'s copies of the activations, the routing weights and the expert indices, and its four experts' weights, as
    the launch stages them. -/
def stgX (c : Dev nD) : (cc0_stg0_0 : Ref sig .tc).ty.Contents (Elt F) := iblk m c 0 t0_0
def stgG (c : Dev nD) : (cc0_stg1_0 : Ref sig .tc).ty.Contents (Elt F) := iblk m c 1 t0_0
def stgI (c : Dev nD) : (cc0_stg2_0 : Ref sig .tc).ty.Contents (Elt F) := iblk m c 2 t0_0
def stgW (c : Dev nD) : (cc0_stg3_0 : Ref sig .tc).ty.Contents (Elt F) := iblk m c 3 t0_0

/-! ## The accumulator -/

/-- One column of the expert indices; one expert's weights. -/
def idxCol (I : S1024x2.Idx → Elt F .i32) (k : Fin 2) : S1024x1.Idx → Elt F .i32 := fun y => I (ix2 (y 0) k)
def expertW (W : S4x256x512.Idx → Elt F .bf16) (k : Fin 4) : S1x256x512.Idx → Elt F .bf16 := fun y => W (ix3 k (y 1) (y 2))

/-- The word the kernel computes its device's index into. -/
abbrev devWord (c : Dev nD) : BitVec 32 := Scalar.remsi (Scalar.divsi (Dev.word c) 1#32) 16#32

/-- The kernel's accumulator over the four experts of device `c`. -/
def accOf (c : Dev nD) (X : S1024x256.Idx → Elt F .bf16) (G : S256x64.Idx → Elt F .bf16) (I : S1024x2.Idx → Elt F .i32)
    (W : S4x256x512.Idx → Elt F .bf16) : FVec F S1024x512 .f32 :=
  k0_pay7 (devWord c) (k0_pay2 X) (iota .tc S1024x64 32 [1] iota_S1024x64_d1_w32)
    (k0_pay4 (k0_pay3 X G) (idxCol I 0) (idxCol I 1))
    (k0_pay5 (devWord c) (k0_pay2 X) (k0_pay3 X G) (idxCol I 0) (idxCol I 1) (expertW W 0))
    (k0_pay6 (devWord c) (k0_pay3 X G) (idxCol I 0) (idxCol I 1))
    (expertW W 1) (expertW W 2) (expertW W 3)

def acc (c : Dev nD) : FVec F S1024x512 .f32 := accOf c (stgX m c) (stgG m c) (stgI m c) (stgW m c)

/-! ## The partial-result buffer -/

/-- The 64-row chunk that row `r` of the partial-result buffer belongs to, and the accumulator row it holds. -/
def chunkOf (r : ℕ) : ℕ := r / 64 % 4 * 4 + r / 64 / 4
def permRow (r : Fin 1024) : Fin 1024 := ⟨64 * chunkOf r.val + r.val % 64, by have := r.isLt; unfold chunkOf; omega⟩

/-- The buffer once all sixteen chunks are stored. -/
def part (c : Dev nD) : PBuf F := fun i => k0_pay8 (acc m c) (ix2 (permRow (i 0)) (i 1))

/-- The device's own 256 rows, its row mates' contributions added. -/
def sum1 (c : Dev nD) : S256x512.Idx → Elt F .bf16 :=
  k0_pay26 (big (part m c) (qOf c)) (big (part m (mate (rowJ 0) c)) (qOf c)) (big (part m (mate (rowJ 1) c)) (qOf c))
    (big (part m (mate (rowJ 2) c)) (qOf c))

/-- The buffer after the first exchange. -/
def part1 (c : Dev nD) : PBuf F := fun i =>
  if h : 256 * (qOf c).val ≤ (i 0).val ∧ (i 0).val < 256 * (qOf c).val + 256
  then sum1 m c (ix2 ⟨(i 0).val - 256 * (qOf c).val, by omega⟩ (i 1)) else part m c i

/-- Device `c`'s 64 rows of the result. -/
def outF (c : Dev nD) : S64x512.Idx → Elt F .f32 :=
  k0_pay1 (small (part1 m c) (qOf c) (zOf c)) (small (part1 m (mate (colJ 0) c)) (qOf c) (zOf c))
    (small (part1 m (mate (colJ 1) c)) (qOf c) (zOf c)) (small (part1 m (mate (colJ 2) c)) (qOf c) (zOf c))

/-- The landing buffer, every slot arrived. -/
def landed (c : Dev nD) : SBuf F := fun i =>
  if h : (i 0).val < 768
  then big (part m (mate (rowJ ⟨(i 0).val / 256, by omega⟩) c)) (qOf c) (ix2 ⟨(i 0).val % 256, by omega⟩ (i 1))
  else small (part1 m (mate (colJ ⟨((i 0).val - 768) / 64, by have : (i 0).val < 960 := (i 0).isLt; omega⟩) c)) (qOf c) (zOf c)
    (ix2 ⟨((i 0).val - 768) % 64, by omega⟩ (i 1))

theorem rowSlot_inb (t : Fin 3) : 256 * t.val + 256 ≤ 960 := by have := t.isLt; omega
theorem colSlot_inb (t : Fin 3) : 768 + 64 * t.val + 64 ≤ 960 := by have := t.isLt; omega

theorem slotLo_rowJ (t : Fin 3) : slotLo (rowJ t) = 256 * t.val := by revert t; decide
theorem slotLo_colJ (t : Fin 3) : slotLo (colJ t) = 768 + 64 * t.val := by revert t; decide
theorem slotN_rowJ (t : Fin 3) : slotN (rowJ t) = 256 := by revert t; decide
theorem slotN_colJ (t : Fin 3) : slotN (colJ t) = 64 := by revert t; decide

/-- What the landing buffer's slots hold. -/
theorem rows_landed_row (c : Dev nD) (t : Fin 3) :
    rows (landed m c) (256 * t.val) (rowSlot_inb t) = big (part m (mate (rowJ t) c)) (qOf c) := by
  funext y
  have hy : (y 0).val < 256 := (y 0).isLt
  have ht := t.isLt
  have e1 : (256 * t.val + (y 0).val) / 256 = t.val := by omega
  have e2 : (256 * t.val + (y 0).val) % 256 = (y 0).val := by omega
  show landed m c (ix2 _ _) = _
  refine (dif_pos (show (256 * t.val + (y 0).val) < 768 by omega)).trans ?_
  have h1 : (⟨(256 * t.val + (y 0).val) / 256, by omega⟩ : Fin 3) = t := Fin.ext e1
  have h2 : (ix2 ⟨(256 * t.val + (y 0).val) % 256, by omega⟩ (y 1) : S256x512.Idx) = y := by
    funext a; apply Fin.ext
    match a with
    | ⟨0, _⟩ => exact e2
    | ⟨1, _⟩ => rfl
  exact congr (congrArg (fun t => big (part m (mate (rowJ t) c)) (qOf c)) h1) h2

theorem rows_landed_col (c : Dev nD) (t : Fin 3) :
    rows (landed m c) (768 + 64 * t.val) (colSlot_inb t) = small (part1 m (mate (colJ t) c)) (qOf c) (zOf c) := by
  funext y
  have hy : (y 0).val < 64 := (y 0).isLt
  have ht := t.isLt
  have e1 : (768 + 64 * t.val + (y 0).val - 768) / 64 = t.val := by omega
  have e2 : (768 + 64 * t.val + (y 0).val - 768) % 64 = (y 0).val := by omega
  show landed m c (ix2 _ _) = _
  refine (dif_neg (show ¬ (768 + 64 * t.val + (y 0).val) < 768 by omega)).trans ?_
  have h1 : (⟨(768 + 64 * t.val + (y 0).val - 768) / 64, by omega⟩ : Fin 3) = t := Fin.ext e1
  have h2 : (ix2 ⟨(768 + 64 * t.val + (y 0).val - 768) % 64, by omega⟩ (y 1) : S64x512.Idx) = y := by
    funext a; apply Fin.ext
    match a with
    | ⟨0, _⟩ => exact e2
    | ⟨1, _⟩ => rfl
  exact congr (congrArg (fun t => small (part1 m (mate (colJ t) c)) (qOf c) (zOf c)) h1) h2

/-- After the first exchange the other columns' rows are as before. -/
theorem part1_other (c : Dev nD) (i : S1024x512.Idx)
    (h : ¬ (256 * (qOf c).val ≤ (i 0).val ∧ (i 0).val < 256 * (qOf c).val + 256)) : part1 m c i = part m c i := dif_neg h

/-! ## Filling the buffer chunk by chunk -/

/-- `f` holds the chunks before chunk `n` in place. -/
def Filled (c : Dev nD) (n : ℕ) (f : PBuf F) : Prop := ∀ i : S1024x512.Idx, chunkOf (i 0).val < n → f i = part m c i

theorem filled_zero (c : Dev nD) (f : PBuf F) : Filled m c 0 f := fun i h => absurd h (Nat.not_lt_zero _)
theorem filled_all (c : Dev nD) (f : PBuf F) (h : Filled m c 16 f) : f = part m c :=
  funext fun i => h i (by have : (i 0).val < 1024 := (i 0).isLt; unfold chunkOf; omega)

/-- Where chunk `k` goes. -/
def chunkLo (k : Fin 16) : ℕ := 64 * (k.val % 4 * 4 + k.val / 4)

theorem filled_succ (c : Dev nD) (k : Fin 16) {off : Fin 2 → ℕ} (ho : off = ![chunkLo k, 0])
    (inb : ∀ a, off a + (![64, 512] : Fin 2 → ℕ) a ≤ S1024x512.size a) (f : PBuf F) (hf : Filled m c k.val f)
    (w : S64x512.Idx → Elt F .bf16) (hw : w = rows (k0_pay8 (acc m c)) (64 * k.val) (by have := k.isLt; omega)) :
    Filled m c (k.val + 1) (((View.whole (cc0_scratch0 : Ref sig .tc)).slice (Rect.unit (s := S1024x512) off ![64, 512] inb)).write (Elt F) f w Finset.univ) := by
  intro i hi
  have hr : (i 0).val < 1024 := (i 0).isLt
  have hk := k.isLt
  by_cases hc : chunkOf (i 0).val = k.val
  · have h0 : chunkLo k ≤ (i 0).val ∧ (i 0).val < chunkLo k + 64 := by unfold chunkOf at hc; unfold chunkLo; omega
    rw [write_p_mem ho (by unfold chunkLo; omega) inb f w i h0.1 h0.2, hw]
    show k0_pay8 (acc m c) (ix2 _ _) = k0_pay8 (acc m c) (ix2 _ _)
    refine congrArg (k0_pay8 (acc m c)) (congrArg (fun r => ix2 r (i 1)) (Fin.ext ?_))
    show 64 * k.val + ((i 0).val - chunkLo k) = 64 * chunkOf (i 0).val + (i 0).val % 64
    unfold chunkOf at hc ⊢; unfold chunkLo at h0 ⊢; omega
  · rw [write_p_not_mem ho inb f w i (fun h => hc (by unfold chunkOf; unfold chunkLo at h; omega))]
    exact hf i (by omega)

end Cert.MoE

end
-- ==== Proof.Schedule.lean ====
/-
# The exchange as a schedule of rounds

Thirteen semaphore cells per device, one round each: the runtime's barrier cell, which all six mates pay one unit, mate `j`
handing over slot `j` of its own landing buffer; and for every mate a send cell, which the device's own transfer pays
handing its source rows back, and a receive cell, which the mate's transfer pays handing the slot with what it wrote.

A device owes first the barrier cells of its mates, in the order the kernel signals them, then the receive cells, in the
order of its transfers; a wait is allowed because the cells are ranked: send cells, barrier cells, the receive cells of the
first exchange, those of the second.
-/
module

public import proofs.«01_k».proof.Proof.Contents

@[expose] public section

set_option maxRecDepth 16384

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are the mates' numbers -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kinds of cell: the barrier's, a send cell per mate, a receive cell per mate. -/
abbrev CI : Type := Unit ⊕ (Fin 6 ⊕ Fin 6)
abbrev CI.bar : CI := .inl ()
abbrev CI.send (j : Fin 6) : CI := .inr (.inl j)
abbrev CI.recv (j : Fin 6) : CI := .inr (.inr j)

abbrev barS : Sem sig := (SemArray.scalar (sig.barrier 0 rfl) : Sems sig S_).sem
def sS (j : Fin 6) : DmaSem sig := ⟨5 + j.val, by have := j.isLt; show 5 + j.val < 17; omega⟩
def rS (j : Fin 6) : DmaSem sig := ⟨11 + j.val, by have := j.isLt; show 11 + j.val < 17; omega⟩

/-- The semaphore of a kind of cell, and the kind of a semaphore. -/
def csem : CI → SemLoc sig
  | .inl _ => .reg barS
  | .inr (.inl j) => .dma (sS j)
  | .inr (.inr j) => .dma (rS j)
def kindOf : SemLoc sig → Option CI
  | .reg _ => some .bar
  | .dma s => if h : 5 ≤ s.val ∧ s.val < 11 then some (.send ⟨s.val - 5, by omega⟩)
      else if h : 11 ≤ s.val then some (.recv ⟨s.val - 11, by have : s.val < 17 := s.isLt; omega⟩) else none

theorem kindOf_csem (k : CI) : kindOf (csem k) = some k := by revert k; decide
theorem csem_injective : Function.Injective csem := fun k k' h => by
  have := kindOf_csem k; rw [h, kindOf_csem] at this; exact (Option.some.inj this).symm

abbrev kcell (ck : Dev nD × CI) : GSem nD τ sig := ((ck.1 : Thread nD τ), csem ck.2)
abbrev barCell (c : Dev nD) : GSem nD τ sig := kcell (c, .bar)
abbrev sendCell (j : Fin 6) (c : Dev nD) : GSem nD τ sig := kcell (c, .send j)
abbrev recvCell (j : Fin 6) (c : Dev nD) : GSem nD τ sig := kcell (c, .recv j)

theorem kcell_injective : Function.Injective kcell := fun ⟨c, k⟩ ⟨c', k'⟩ h => by
  have h1 : c = c' := congrArg (fun g : GSem nD τ sig => g.1.1) h
  have h2 : k = k' := csem_injective (congrArg (fun g : GSem nD τ sig => g.2) h)
  rw [h1, h2]

/-! ## What a transfer credits -/

abbrev rowSlot : Memref sig .tc .vmem S256x512 .bf16 :=
  (Memref.whole cc0_scratch1).slice (Rect.unit (s := S960x512) ![0, 0] S256x512.size inb_S960x512_S256x512_0_0) (fun _ => rfl)
abbrev colSlot : Memref sig .tc .vmem S64x512 .bf16 :=
  (Memref.whole cc0_scratch1).slice (Rect.unit (s := S960x512) ![768, 0] S64x512.size inb_S960x512_S64x512_768_0) (fun _ => rfl)

def Nrow : ℕ := rowSlot.view.dmaCredit
def Ncol : ℕ := colSlot.view.dmaCredit
def credit (j : Fin 6) : ℕ := Fin.addCases (motive := fun _ : Fin (3 + 3) => ℕ) (fun _ => Nrow) (fun _ => Ncol) j

theorem credit_row (t : Fin 3) : credit (rowJ t) = Nrow := Fin.addCases_left t
theorem credit_col (t : Fin 3) : credit (colJ t) = Ncol := Fin.addCases_right t
theorem credit_pos (j : Fin 6) : 0 < credit j := by
  refine Fin.addCases (motive := fun j : Fin (3 + 3) => 0 < credit j) (fun t => ?_) (fun t => ?_) j
  · exact (credit_row t).symm ▸ View.dmaCredit_pos _ (by decide)
  · exact (credit_col t).symm ▸ View.dmaCredit_pos _ (by decide)

/-! ## Pieces of the buffers -/

/-- Slot `j` of device `c`'s landing buffer; rows of its partial-result buffer. -/
def slotPts (c : Dev nD) (j : Fin 6) (f : SBuf F) : sProp 𝕄 := ((c : Thread nD τ).loc cc0_scratch1) ↦[slot j]{fullShare} f
def rowsPts (c : Dev nD) (lo n : ℕ) (f : PBuf F) : sProp 𝕄 := ((c : Thread nD τ).loc cc0_scratch0) ↦[pRows lo n]{fullShare} f

instance slotPts_storable (c : Dev nD) (j) (f : SBuf F) : BI.Storable (upEmb : UEmb _ 𝕄) (slotPts c j f) := by unfold slotPts; infer_instance
instance rowsPts_storable (c : Dev nD) (lo n) (f : PBuf F) : BI.Storable (upEmb : UEmb _ 𝕄) (rowsPts c lo n f) := by unfold rowsPts; infer_instance

/-- What a transfer to a row mate, to a column mate reads. -/
def rowSrc (t : Fin 3) (c : Dev nD) : sProp 𝕄 := rowsPts c (256 * (qOf (mate (rowJ t) c)).val) 256 (part m c)
def colSrc (t : Fin 3) (c : Dev nD) : sProp 𝕄 :=
  rowsPts c (256 * (qOf c).val + 64 * (zOf (mate (colJ t) c)).val) 64 (part1 m c)
def src (j : Fin 6) (c : Dev nD) : sProp 𝕄 := Fin.addCases (motive := fun _ : Fin (3 + 3) => sProp 𝕄) (fun t => rowSrc m t c) (fun t => colSrc m t c) j

theorem src_row (t : Fin 3) (c : Dev nD) : src m (rowJ t) c = rowSrc m t c := Fin.addCases_left t
theorem src_col (t : Fin 3) (c : Dev nD) : src m (colJ t) c = colSrc m t c := Fin.addCases_right t

instance src_storable (j : Fin 6) (c : Dev nD) : BI.Storable (upEmb : UEmb _ 𝕄) (src m j c) := by
  refine Fin.addCases (motive := fun j : Fin (3 + 3) => BI.Storable (upEmb : UEmb _ 𝕄) (src m j c)) (fun t => ?_) (fun t => ?_) j
  · exact (src_row m t c).symm ▸ (by unfold rowSrc; infer_instance)
  · exact (src_col m t c).symm ▸ (by unfold colSrc; infer_instance)

/-! ## The schedule -/

/-- By kind of cell: the duties, what each pays, what each hands over on device `c`. -/
def dutiesC : CI → Finset (Fin 6)
  | .inl _ => Finset.univ
  | .inr (.inl j) => {j}
  | .inr (.inr j) => {j}
def amountC : CI → ℕ
  | .inl _ => 1
  | .inr (.inl j) => credit j
  | .inr (.inr j) => credit j
def payC (c : Dev nD) (d : Fin 6) : CI → sProp 𝕄
  | .inl _ => iprop(∃ f, slotPts (mate d c) d f)
  | .inr (.inl j) => src m j c
  | .inr (.inr j) => slotPts c j (landed m c)

theorem amountC_pos (k : CI) : 0 < amountC k := by
  rcases k with u | j | j
  · exact Nat.one_pos
  · exact credit_pos j
  · exact credit_pos j

def rd : Rounds.Schedule (GSem nD τ sig) (Fin 6) 𝕄 where
  duties g r := if r = 0 ∧ g.1.2 = .tc then (kindOf g.2).elim ∅ dutiesC else ∅
  unitless _ := False
  amount g _ _ := (kindOf g.2).elim 1 amountC
  payload g _ d := (kindOf g.2).elim iprop(emp) (payC m g.1.1 d)
  amount_pos g _ _ _ := by
    cases kindOf g.2 with
    | none => exact Nat.one_pos
    | some k => exact amountC_pos k

instance payC_storable (c : Dev nD) (d : Fin 6) (k : CI) : BI.Storable (upEmb : UEmb _ 𝕄) (payC m c d k) := by
  rcases k with u | j | j <;> unfold payC <;> infer_instance

instance rd_payload_storable (g : GSem nD τ sig) (r : ℕ) (d : Fin 6) : BI.Storable (upEmb : UEmb _ 𝕄) ((rd m).payload g r d) := by
  show BI.Storable upEmb ((kindOf g.2).elim iprop(emp) (payC m g.1.1 d))
  cases kindOf g.2 with
  | none => exact (inferInstance : BI.Storable (upEmb : UEmb _ 𝕄) iprop(emp))
  | some k => exact payC_storable m g.1.1 d k

section Tables
variable (c : Dev nD) (k : CI) (d : Fin 6)

theorem duties_eq : (rd m).duties (kcell (c, k)) 0 = dutiesC k := by
  have h : (rd m).duties (kcell (c, k)) 0
      = if (0 : ℕ) = 0 ∧ (kcell (c, k)).1.2 = .tc then (kindOf (csem k)).elim ∅ dutiesC else ∅ := rfl
  rw [h, if_pos ⟨rfl, rfl⟩, kindOf_csem]; rfl
theorem amount_eq : (rd m).amount (kcell (c, k)) 0 d = amountC k := by
  show (kindOf (csem k)).elim 1 amountC = _
  rw [kindOf_csem]; rfl
theorem payload_eq : (rd m).payload (kcell (c, k)) 0 d = payC m c d k := by
  show (kindOf (csem k)).elim iprop(emp) (payC m c d) = _
  rw [kindOf_csem]; rfl
theorem duties_later (g : GSem nD τ sig) : ∀ r, 1 ≤ r → (rd m).duties g r = ∅ :=
  fun r hr => if_neg fun h => by omega

theorem expect_eq : (rd m).expect (kcell (c, k)) 0 = (dutiesC k).card * amountC k := by
  unfold Schedule.expect Schedule.amountOf
  rw [duties_eq, Finset.sum_congr rfl fun d _ => amount_eq m c k d, Finset.sum_const, smul_eq_mul]

theorem rest_eq : bigSep ((rd m).duties (kcell (c, k)) 0 \ ∅) (fun d => (rd m).payload (kcell (c, k)) 0 d)
    = bigSep (dutiesC k) (fun d => payC m c d k) := by
  rw [Finset.sdiff_empty, duties_eq]
  exact congrArg _ (funext fun d => payload_eq m c k d)

theorem rest_send (j : Fin 6) : bigSep ((rd m).duties (sendCell j c) 0 \ ∅) (fun d => (rd m).payload (sendCell j c) 0 d) = src m j c :=
  (rest_eq m c (.send j)).trans bigSep_singleton
theorem rest_recv (j : Fin 6) : bigSep ((rd m).duties (recvCell j c) 0 \ ∅) (fun d => (rd m).payload (recvCell j c) 0 d) = slotPts c j (landed m c) :=
  (rest_eq m c (.recv j)).trans bigSep_singleton
theorem rest_bar : bigSep ((rd m).duties (barCell c) 0 \ ∅) (fun d => (rd m).payload (barCell c) 0 d)
    = bigSep Finset.univ (fun d => iprop(∃ f, slotPts (mate d c) d f)) := rest_eq m c .bar

end Tables

/-! ## What each device owes, and the ranks -/

/-- The receive credits still owed when the transfers `l` are to come; the barrier units still owed when the signals `l` are. -/
def recvOwed (c : Dev nD) : List (Fin 6) → CellTallies nD τ sig Unit
  | [] => 0
  | j :: l => recvOwed c l + tallyAt (recvCell j (mate j c)) () (credit j)
def barOwed (c : Dev nD) : List (Fin 6) → CellTallies nD τ sig Unit
  | [] => recvOwed c [0, 1, 2, 3, 4, 5]
  | j :: l => barOwed c l + tallyAt (barCell (mate j c)) () 1
def O₀ (c : Dev nD) : CellTallies nD τ sig Unit := barOwed c [0, 3, 1, 4, 2, 5]

def L (g : GSem nD τ sig) : Finset Unit := if g.1.2 = .tc then {()} else ∅
def rank : CI → ℕ
  | .inl _ => 1
  | .inr (.inl _) => 0
  | .inr (.inr j) => if j.val < 3 then 2 else 3
def lv (g : GSem nD τ sig) (_ : Unit) : ℕ := (kindOf g.2).elim 0 rank

theorem L_of_ne (g : GSem nD τ sig) (h : g.1.2 ≠ .tc) : L g = ∅ := if_neg h
theorem lv_kcell (c : Dev nD) (k : CI) : lv (kcell (c, k)) () = rank k := by
  show (kindOf (csem k)).elim 0 rank = _
  rw [kindOf_csem]; rfl

theorem recvOwed_pos {c : Dev nD} {g : GSem nD τ sig} {u : Unit} : ∀ {l : List (Fin 6)}, 0 < recvOwed c l g u →
    ∃ j ∈ l, g = recvCell j (mate j c)
  | [], h => absurd h (Nat.lt_irrefl 0)
  | j :: l, h => by
    unfold recvOwed at h
    rw [Pi.add_apply, Finsupp.add_apply, tallyAt_apply] at h
    by_cases hg : g = recvCell j (mate j c) ∧ u = ()
    · exact ⟨j, List.mem_cons_self, hg.1⟩
    · rw [if_neg hg] at h
      obtain ⟨j', hj, e⟩ := recvOwed_pos (l := l) h
      exact ⟨j', List.mem_cons_of_mem _ hj, e⟩

theorem barOwed_pos {c : Dev nD} {g : GSem nD τ sig} {u : Unit} : ∀ {l : List (Fin 6)}, 0 < barOwed c l g u →
    (∃ j, g = recvCell j (mate j c)) ∨ ∃ j, g = barCell (mate j c)
  | [], h => let ⟨j, _, e⟩ := recvOwed_pos h; .inl ⟨j, e⟩
  | j :: l, h => by
    unfold barOwed at h
    rw [Pi.add_apply, Finsupp.add_apply, tallyAt_apply] at h
    by_cases hg : g = barCell (mate j c) ∧ u = ()
    · exact .inr ⟨j, hg.1⟩
    · rw [if_neg hg] at h
      exact barOwed_pos (l := l) h

/-- A wait of rank at most `n`, everything owed being of a greater rank. -/
theorem mayWait_of (c : Dev nD) (sm : SemLoc sig) (n : ℕ) (hn : lv ((c : Thread nD τ), sm) () ≤ n) (O : CellTallies nD τ sig Unit)
    (hO : ∀ g u, 0 < O g u → ∃ c' k, g = kcell (c', k) ∧ n < rank k) :
    (levAts L lv : sProp 𝕄) ⊢ MayWait (c : Thread nD τ) sm () O :=
  MayOwe.of_cut (L := L) (lev := lv) n (fun p hp => by rw [Finset.mem_singleton.mp hp]; exact Finset.mem_singleton_self _)
    (fun g u hg => by obtain ⟨c', k, rfl, _⟩ := hO g u hg; exact Finset.mem_singleton_self _)
    (fun p hp => by rw [Finset.mem_singleton.mp hp]; exact hn)
    (fun g u hg => by obtain ⟨c', k, rfl, hk⟩ := hO g u hg; exact (lv_kcell c' k).symm ▸ hk)

/-- While transfers are to come, all to receive cells of rank above `n`, a wait of rank at most `n` is allowed. -/
theorem mayWait_recvOwed (c : Dev nD) (k : CI) (l : List (Fin 6)) (h : ∀ j ∈ l, rank k < rank (.recv j)) :
    (levAts L lv : sProp 𝕄) ⊢ MayWait (c : Thread nD τ) (csem k) () (recvOwed c l) :=
  mayWait_of c _ (rank k) (lv_kcell c k).le _ fun g u hg =>
    let ⟨j, hj, e⟩ := recvOwed_pos hg; ⟨_, _, e, h j hj⟩

/-- A wait on a staging semaphore is allowed at launch and when nothing is owed. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  refine mayWait_of c _ 0 (by show (kindOf (.dma q)).elim 0 rank ≤ 0; rw [hq]; exact le_rfl) O fun g u hg => ?_
  rcases hO with rfl | rfl
  · rcases barOwed_pos hg with ⟨j, e⟩ | ⟨j, e⟩
    · exact ⟨_, _, e, by show 0 < (if _ then _ else _); split <;> omega⟩
    · exact ⟨_, _, e, Nat.one_pos⟩
  · exact absurd hg (Nat.lt_irrefl 0)

end Cert.MoE

end
-- ==== Proof.Steps.lean ====
/-
# One step of the exchange each

The rules for a signal to a mate, a transfer to a row mate or a column mate, and the waits, at the schedule's cells and at
a mate's number: each is used six times (three times, for the transfers) by the body.
-/
module

public import proofs.«01_k».proof.Proof.Schedule

@[expose] public section

set_option maxRecDepth 16384

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W : Waits sig Unit, owes (c : Thread nD τ) O W)

/-- Every cell's invariant, and that every cell is at its round. -/
def recs (K : Dev nD × CI → ℕ) : sProp 𝕄 :=
  bigSep Finset.univ fun ck : Dev nD × CI => iprop(cellInv ER (rd m) (K ck) (kcell ck) ∗ reached ER (kcell ck) 0)

instance recs_persistent (K : Dev nD × CI → ℕ) : BI.Persistent (recs m K) := by unfold recs; infer_instance

theorem recs_at (K : Dev nD × CI → ℕ) (ck : Dev nD × CI) :
    recs m K ⊢ iprop(cellInv ER (rd m) (K ck) (kcell ck) ∗ reached ER (kcell ck) 0) :=
  bigSep_elim (Finset.mem_univ ck)

variable (K : Dev nD × CI → ℕ)

/-! ## Signals -/

theorem mem_duties (c : Dev nD) (k : CI) {d : Fin 6} (h : d ∈ dutiesC k) : d ∈ (rd m).duties (kcell (c, k)) 0 := by
  rw [duties_eq m c k]; exact h

/-- Slot `j` is what the barrier's duty at mate `j` pays. -/
theorem pay_bar (j : Fin 6) (c : Dev nD) (f : SBuf F) :
    slotPts c j f ⊢ (rd m).payload ((mate j c : Thread nD τ), SemLoc.reg barS) 0 j := by
  show _ ⊢ (rd m).payload (kcell (mate j c, .bar)) 0 j
  rw [payload_eq m (mate j c) .bar j]
  show _ ⊢ iprop(∃ f, slotPts (mate j (mate j c)) j f)
  rw [mate_mate]
  iintro H; iexists f; iexact H

/-- The signal to mate `j`, handing it slot `j`. -/
theorem wp_signal_mate (j : Fin 6) (c n : Dev nD) (hn : n = mate j c) {k' : ℕ} (hk : k' = 1) (O : CellTallies nD τ sig Unit)
    {α : Type} {Q : α → sProp 𝕄} {k : PUnit → Prog (TpuEff nD τ sig (Elt F) Λ₀ .tc) α} (f : SBuf F) :
    iprop(recs m K ∗ owing c (O + tallyAt (barCell (mate j c)) () 1) ∗ dutyTok ER (barCell (mate j c)) 0 j ∗ slotPts c j f)
      ⊢ iprop((owing c O -∗ WP c (k ⟨⟩) Q) -∗ WP c (.op (.semSignal (n : Thread nD τ) barS k') k) Q) := by
  subst hn; subst hk
  iintro ⟨#HR, HO, Ht, Hs⟩ Hk
  unfold owing
  icases HO with ⟨%W, HO⟩
  ihave H := (recs_at m K (mate j c, .bar)) $$ HR
  icases H with ⟨HI, Hr⟩
  iapply (Rounds.wp_signal 𝒱₀ ER (rd m) (c : Thread nD τ) none (dst := (mate j c : Thread nD τ)) (κ := K (mate j c, .bar)) (r := 0)
      (d := j) (mem_duties m (mate j c) .bar (Finset.mem_univ _)) (amount_eq m (mate j c) .bar j) () O rfl)
    $$ [HI HO Ht Hs Hr]
  · isplitl [HI]; · iexact HI
    isplitl [HO]; · iexact HO
    isplitl [Ht]; · iexact Ht
    isplitl [Hs]
    · ihave Hp := (pay_bar m j c f) $$ Hs; iexact Hp
    iexact Hr
  iintro HO
  iapply Hk
  iexists W; iexact HO

/-! ## Transfers -/

section Transfers

/-- Rows of the partial result's buffer, and of the landing buffer, as a transfer takes them. -/
abbrev pMem (sz : Fin 2 → ℕ) (off : Fin 2 → ℕ) (inb : ∀ a, off a + sz a ≤ S1024x512.size a) : Memref sig .tc .vmem ⟨2, sz⟩ .bf16 :=
  (Memref.whole cc0_scratch0).slice (Rect.unit (s := S1024x512) off sz inb) (fun _ => rfl)
abbrev sMem (sz : Fin 2 → ℕ) (off : Fin 2 → ℕ) (inb : ∀ a, off a + sz a ≤ S960x512.size a) : Memref sig .tc .vmem ⟨2, sz⟩ .bf16 :=
  (Memref.whole cc0_scratch1).slice (Rect.unit (s := S960x512) off sz inb) (fun _ => rfl)

/-- What lands in a row mate's slot `t` is what its landing buffer is to hold there. -/
theorem land_row (t : Fin 3) (c : Dev nD) {off doff : Fin 2 → ℕ} (ho : off = ![256 * (qOf (mate (rowJ t) c)).val, 0])
    (hd : doff = ![256 * t.val, 0]) (inb : ∀ a, off a + S256x512.size a ≤ S1024x512.size a)
    (dinb : ∀ a, doff a + S256x512.size a ≤ S960x512.size a) (fd : SBuf F) :
    ∀ i ∈ slot (rowJ t),
      ((View.whole (cc0_scratch1 : Ref sig .tc)).slice (Rect.unit (s := S960x512) doff S256x512.size dinb)).write (Elt F) fd
          (((View.whole (cc0_scratch0 : Ref sig .tc)).slice (Rect.unit (s := S1024x512) off S256x512.size inb)).read (Elt F) (part m c)) Finset.univ i
        = landed m (mate (rowJ t) c) i := by
  intro i hi
  rw [mem_sRows, slotLo_rowJ, slotN_rowJ] at hi
  refine (write_s_mem (n := 256) hd (rowSlot_inb t) dinb fd _ i hi.1 hi.2).trans ?_
  rw [read_p (n := 256) ho (big_inb _) inb]
  have h := congrFun (rows_landed_row m (mate (rowJ t) c) t) (ix2 ⟨(i 0).val - 256 * t.val, by omega⟩ (i 1))
  rw [mate_mate] at h
  refine h.symm.trans ?_
  refine congrArg (landed m (mate (rowJ t) c)) ?_
  funext a; apply Fin.ext
  match a with
  | ⟨0, _⟩ => show 256 * t.val + ((i 0).val - 256 * t.val) = (i 0).val; omega
  | ⟨1, _⟩ => rfl

/-- What lands in a column mate's slot `t` likewise. -/
theorem land_col (t : Fin 3) (c : Dev nD) {off doff : Fin 2 → ℕ}
    (ho : off = ![256 * (qOf c).val + 64 * (zOf (mate (colJ t) c)).val, 0])
    (hd : doff = ![768 + 64 * t.val, 0]) (inb : ∀ a, off a + S64x512.size a ≤ S1024x512.size a)
    (dinb : ∀ a, doff a + S64x512.size a ≤ S960x512.size a) (fd : SBuf F) :
    ∀ i ∈ slot (colJ t),
      ((View.whole (cc0_scratch1 : Ref sig .tc)).slice (Rect.unit (s := S960x512) doff S64x512.size dinb)).write (Elt F) fd
          (((View.whole (cc0_scratch0 : Ref sig .tc)).slice (Rect.unit (s := S1024x512) off S64x512.size inb)).read (Elt F) (part1 m c)) Finset.univ i
        = landed m (mate (colJ t) c) i := by
  intro i hi
  rw [mem_sRows, slotLo_colJ, slotN_colJ] at hi
  refine (write_s_mem (n := 64) hd (colSlot_inb t) dinb fd _ i hi.1 hi.2).trans ?_
  rw [read_p (n := 64) ho (small_inb _ _) inb]
  have h := congrFun (rows_landed_col m (mate (colJ t) c) t) (ix2 ⟨(i 0).val - (768 + 64 * t.val), by omega⟩ (i 1))
  rw [mate_mate, qOf_colMate] at h
  refine h.symm.trans ?_
  refine congrArg (landed m (mate (colJ t) c)) ?_
  funext a; apply Fin.ext
  match a with
  | ⟨0, _⟩ => show 768 + 64 * t.val + ((i 0).val - (768 + 64 * t.val)) = (i 0).val; omega
  | ⟨1, _⟩ => rfl

theorem slot_row (t : Fin 3) : slot (rowJ t) = sRows (256 * t.val) 256 := by
  show sRows (slotLo (rowJ t)) (slotN (rowJ t)) = _
  rw [slotLo_rowJ, slotN_rowJ]

theorem pay_send_row (t : Fin 3) (c : Dev nD) {off : Fin 2 → ℕ} (ho : off = ![256 * (qOf (mate (rowJ t) c)).val, 0])
    (inb : ∀ a, off a + S256x512.size a ≤ S1024x512.size a) :
    ((pMem S256x512.size off inb).view.loc (c : Thread nD τ) ↦[(pMem S256x512.size off inb).view.set]{fullShare} part m c)
      ⊢ (rd m).payload (sendCell (rowJ t) c) 0 (rowJ t) := by
  show _ ⊢ (rd m).payload (kcell (c, .send (rowJ t))) 0 (rowJ t)
  rw [payload_eq m c (.send (rowJ t))]
  show _ ⊢ src m (rowJ t) c
  rw [src_row]; unfold rowSrc rowsPts
  rw [← set_pSlice (n := 256) ho rfl inb]

theorem pay_recv_row (t : Fin 3) (c : Dev nD) {off doff : Fin 2 → ℕ} (ho : off = ![256 * (qOf (mate (rowJ t) c)).val, 0])
    (hd : doff = ![256 * t.val, 0]) (inb : ∀ a, off a + S256x512.size a ≤ S1024x512.size a)
    (dinb : ∀ a, doff a + S256x512.size a ≤ S960x512.size a) (fd : SBuf F) :
    ((sMem S256x512.size doff dinb).view.loc (mate (rowJ t) c : Thread nD τ) ↦[(sMem S256x512.size doff dinb).view.set]{fullShare}
        (sMem S256x512.size doff dinb).view.write (Elt F) fd ((pMem S256x512.size off inb).view.read (Elt F) (part m c)) Finset.univ)
      ⊢ (rd m).payload (recvCell (rowJ t) (mate (rowJ t) c)) 0 (rowJ t) := by
  show _ ⊢ (rd m).payload (kcell (mate (rowJ t) c, .recv (rowJ t))) 0 (rowJ t)
  rw [payload_eq m (mate (rowJ t) c) (.recv (rowJ t))]
  show _ ⊢ slotPts (mate (rowJ t) c) (rowJ t) (landed m (mate (rowJ t) c))
  have hset : (sMem S256x512.size doff dinb).view.set = slot (rowJ t) := (set_sSlice (n := 256) hd rfl dinb).trans (slot_row t).symm
  rw [hset]
  exact Entails.of_eq (pointsTo_congr (land_row m t c ho hd inb dinb fd))

/-- The transfer to row mate `t`: its rows of the partial result, into slot `t`. -/
theorem wp_send_row (t : Fin 3) (c n : Dev nD) (hn : n = mate (rowJ t) c) {off doff : Fin 2 → ℕ}
    (ho : off = ![256 * (qOf (mate (rowJ t) c)).val, 0]) (hd : doff = ![256 * t.val, 0])
    {inb : ∀ a, off a + S256x512.size a ≤ S1024x512.size a} {dinb : ∀ a, doff a + S256x512.size a ≤ S960x512.size a}
    {s r : DmaSem sig} (hs : s = sS (rowJ t)) (hr : r = rS (rowJ t))
    {hsc : (((sMem S256x512.size doff dinb : Memref sig (Dev.tc n : Thread nD τ).2.kind .vmem S256x512 .bf16))).view.ref.isScScratch = false}
    {hsrc : ((pMem S256x512.size off inb)).view.WordExact}
    {hdst : ((sMem S256x512.size doff dinb)).view.WordExact}
    {hsem : DmaTarget.Typed .vmem (.dma r) (.remote (Dev.tc n : Thread nD τ)
      (sMem S256x512.size doff dinb) (.dma s) hsc)}
    (O : CellTallies nD τ sig Unit)
    {α : Type} {Q : α → sProp 𝕄} {k : PUnit → Prog (TpuEff nD τ sig (Elt F) Λ₀ .tc) α} (fd : SBuf F) :
    iprop(recs m K ∗ owing c (O + tallyAt (recvCell (rowJ t) (mate (rowJ t) c)) () (credit (rowJ t)))
        ∗ rowSrc m t c ∗ slotPts (mate (rowJ t) c) (rowJ t) fd
        ∗ dutyTok ER (sendCell (rowJ t) c) 0 (rowJ t) ∗ dutyTok ER (recvCell (rowJ t) (mate (rowJ t) c)) 0 (rowJ t))
      ⊢ iprop(((cred (tallyAt (sendCell (rowJ t) c) () (credit (rowJ t))) ∗ owing c O) -∗ WP c (k ⟨⟩) Q)
          -∗ WP c (.op (.enqueueDma (pMem S256x512.size off inb)
              (.remote (Dev.tc n : Thread nD τ)
                (sMem S256x512.size doff dinb) (.dma s) hsc)
              (.dma r) hsrc hdst hsem) k) Q) := by
  subst hn; subst hs; subst hr
  iintro ⟨#HR, HO, Hsrc, Hdst, Hts, Htr⟩ Hk
  unfold owing
  icases HO with ⟨%W, HO⟩
  ihave H1 := (recs_at m K (c, .send (rowJ t))) $$ HR
  icases H1 with ⟨HI1, Hr1⟩
  ihave H2 := (recs_at m K (mate (rowJ t) c, .recv (rowJ t))) $$ HR
  icases H2 with ⟨HI2, Hr2⟩
  unfold rowSrc rowsPts slotPts
  iapply (Rounds.wp_send_pointsTo 𝒱₀ ER (rd m) (c : Thread nD τ) none (c' := (mate (rowJ t) c : Thread nD τ)) (κ₁ := K (c, .send (rowJ t))) (κ₂ := K (mate (rowJ t) c, .recv (rowJ t)))
    (src := (pMem S256x512.size off inb))
    (dst := (sMem S256x512.size doff dinb))
    (r₁ := 0) (r₂ := 0) (d₁ := rowJ t) (d₂ := rowJ t) (fs := part m c) (fd := fd) (q := fullShare)
    (mem_duties m c (.send (rowJ t)) (Finset.mem_singleton_self _))
    (mem_duties m (mate (rowJ t) c) (.recv (rowJ t)) (Finset.mem_singleton_self _))
    () () (credit (rowJ t)) (by rw [credit_row]; rfl) (amount_eq m c (.send (rowJ t)) (rowJ t))
    (amount_eq m (mate (rowJ t) c) (.recv (rowJ t)) (rowJ t)) O rfl (W := W)
    (pay_send_row m t c ho inb) (pay_recv_row m t c ho hd inb dinb fd))
    $$ [HI1 HI2 Hsrc Hdst HO Hts Htr Hr1 Hr2]
  · isplitl [HI1]; · iexact HI1
    isplitl [HI2]; · iexact HI2
    isplitl [Hsrc]
    · rw [← set_pSlice (n := 256) ho rfl inb]; iexact Hsrc
    isplitl [Hdst]
    · rw [slot_row t, ← set_sSlice (n := 256) hd rfl dinb]
      iexact Hdst
    isplitl [HO]; · iexact HO
    isplitl [Hts]; · iexact Hts
    isplitl [Hr1]; · iexact Hr1
    isplitl [Htr]; · iexact Htr
    iexact Hr2
  iintro ⟨Hc, HO⟩
  iapply Hk
  isplitl [Hc]; · iexact Hc
  iexists W; iexact HO

theorem slot_col (t : Fin 3) : slot (colJ t) = sRows (768 + 64 * t.val) 64 := by
  show sRows (slotLo (colJ t)) (slotN (colJ t)) = _
  rw [slotLo_colJ, slotN_colJ]

theorem pay_send_col (t : Fin 3) (c : Dev nD) {off : Fin 2 → ℕ} (ho : off = ![256 * (qOf c).val + 64 * (zOf (mate (colJ t) c)).val, 0])
    (inb : ∀ a, off a + S64x512.size a ≤ S1024x512.size a) :
    ((pMem S64x512.size off inb).view.loc (c : Thread nD τ) ↦[(pMem S64x512.size off inb).view.set]{fullShare} part1 m c)
      ⊢ (rd m).payload (sendCell (colJ t) c) 0 (colJ t) := by
  show _ ⊢ (rd m).payload (kcell (c, .send (colJ t))) 0 (colJ t)
  rw [payload_eq m c (.send (colJ t))]
  show _ ⊢ src m (colJ t) c
  rw [src_col]; unfold colSrc rowsPts
  rw [← set_pSlice (n := 64) ho rfl inb]

theorem pay_recv_col (t : Fin 3) (c : Dev nD) {off doff : Fin 2 → ℕ} (ho : off = ![256 * (qOf c).val + 64 * (zOf (mate (colJ t) c)).val, 0])
    (hd : doff = ![768 + 64 * t.val, 0]) (inb : ∀ a, off a + S64x512.size a ≤ S1024x512.size a)
    (dinb : ∀ a, doff a + S64x512.size a ≤ S960x512.size a) (fd : SBuf F) :
    ((sMem S64x512.size doff dinb).view.loc (mate (colJ t) c : Thread nD τ) ↦[(sMem S64x512.size doff dinb).view.set]{fullShare}
        (sMem S64x512.size doff dinb).view.write (Elt F) fd ((pMem S64x512.size off inb).view.read (Elt F) (part1 m c)) Finset.univ)
      ⊢ (rd m).payload (recvCell (colJ t) (mate (colJ t) c)) 0 (colJ t) := by
  show _ ⊢ (rd m).payload (kcell (mate (colJ t) c, .recv (colJ t))) 0 (colJ t)
  rw [payload_eq m (mate (colJ t) c) (.recv (colJ t))]
  show _ ⊢ slotPts (mate (colJ t) c) (colJ t) (landed m (mate (colJ t) c))
  have hset : (sMem S64x512.size doff dinb).view.set = slot (colJ t) := (set_sSlice (n := 64) hd rfl dinb).trans (slot_col t).symm
  rw [hset]
  exact Entails.of_eq (pointsTo_congr (land_col m t c ho hd inb dinb fd))

/-- The transfer to column mate `t`: its 64 of the device's own rows, into slot `3 + t`. -/
theorem wp_send_col (t : Fin 3) (c n : Dev nD) (hn : n = mate (colJ t) c) {off doff : Fin 2 → ℕ}
    (ho : off = ![256 * (qOf c).val + 64 * (zOf (mate (colJ t) c)).val, 0]) (hd : doff = ![768 + 64 * t.val, 0])
    {inb : ∀ a, off a + S64x512.size a ≤ S1024x512.size a} {dinb : ∀ a, doff a + S64x512.size a ≤ S960x512.size a}
    {s r : DmaSem sig} (hs : s = sS (colJ t)) (hr : r = rS (colJ t))
    {hsc : (((sMem S64x512.size doff dinb : Memref sig (Dev.tc n : Thread nD τ).2.kind .vmem S64x512 .bf16))).view.ref.isScScratch = false}
    {hsrc : ((pMem S64x512.size off inb)).view.WordExact}
    {hdst : ((sMem S64x512.size doff dinb)).view.WordExact}
    {hsem : DmaTarget.Typed .vmem (.dma r) (.remote (Dev.tc n : Thread nD τ)
      (sMem S64x512.size doff dinb) (.dma s) hsc)}
    (O : CellTallies nD τ sig Unit)
    {α : Type} {Q : α → sProp 𝕄} {k : PUnit → Prog (TpuEff nD τ sig (Elt F) Λ₀ .tc) α} (fd : SBuf F) :
    iprop(recs m K ∗ owing c (O + tallyAt (recvCell (colJ t) (mate (colJ t) c)) () (credit (colJ t)))
        ∗ colSrc m t c ∗ slotPts (mate (colJ t) c) (colJ t) fd
        ∗ dutyTok ER (sendCell (colJ t) c) 0 (colJ t) ∗ dutyTok ER (recvCell (colJ t) (mate (colJ t) c)) 0 (colJ t))
      ⊢ iprop(((cred (tallyAt (sendCell (colJ t) c) () (credit (colJ t))) ∗ owing c O) -∗ WP c (k ⟨⟩) Q)
          -∗ WP c (.op (.enqueueDma (pMem S64x512.size off inb)
              (.remote (Dev.tc n : Thread nD τ)
                (sMem S64x512.size doff dinb) (.dma s) hsc)
              (.dma r) hsrc hdst hsem) k) Q) := by
  subst hn; subst hs; subst hr
  iintro ⟨#HR, HO, Hsrc, Hdst, Hts, Htr⟩ Hk
  unfold owing
  icases HO with ⟨%W, HO⟩
  ihave H1 := (recs_at m K (c, .send (colJ t))) $$ HR
  icases H1 with ⟨HI1, Hr1⟩
  ihave H2 := (recs_at m K (mate (colJ t) c, .recv (colJ t))) $$ HR
  icases H2 with ⟨HI2, Hr2⟩
  unfold colSrc rowsPts slotPts
  iapply (Rounds.wp_send_pointsTo 𝒱₀ ER (rd m) (c : Thread nD τ) none (c' := (mate (colJ t) c : Thread nD τ)) (κ₁ := K (c, .send (colJ t))) (κ₂ := K (mate (colJ t) c, .recv (colJ t)))
    (src := (pMem S64x512.size off inb))
    (dst := (sMem S64x512.size doff dinb))
    (r₁ := 0) (r₂ := 0) (d₁ := colJ t) (d₂ := colJ t) (fs := part1 m c) (fd := fd) (q := fullShare)
    (mem_duties m c (.send (colJ t)) (Finset.mem_singleton_self _))
    (mem_duties m (mate (colJ t) c) (.recv (colJ t)) (Finset.mem_singleton_self _))
    () () (credit (colJ t)) (by rw [credit_col]; rfl) (amount_eq m c (.send (colJ t)) (colJ t))
    (amount_eq m (mate (colJ t) c) (.recv (colJ t)) (colJ t)) O rfl (W := W)
    (pay_send_col m t c ho inb) (pay_recv_col m t c ho hd inb dinb fd))
    $$ [HI1 HI2 Hsrc Hdst HO Hts Htr Hr1 Hr2]
  · isplitl [HI1]; · iexact HI1
    isplitl [HI2]; · iexact HI2
    isplitl [Hsrc]
    · rw [← set_pSlice (n := 64) ho rfl inb]; iexact Hsrc
    isplitl [Hdst]
    · rw [slot_col t, ← set_sSlice (n := 64) hd rfl dinb]
      iexact Hdst
    isplitl [HO]; · iexact HO
    isplitl [Hts]; · iexact Hts
    isplitl [Hr1]; · iexact Hr1
    isplitl [Htr]; · iexact Htr
    iexact Hr2
  iintro ⟨Hc, HO⟩
  iapply Hk
  isplitl [Hc]; · iexact Hc
  iexists W; iexact HO

end Transfers

/-! ## Waits -/

/-- A wait for the whole round of the cell of kind `kk`: what its payers handed over. -/
theorem wp_wait_cell (kk : CI) (c : Dev nD) {w : TpuEff nD τ sig (Elt F) Λ₀ .tc PUnit} {sm : SemLoc sig} (hsm : sm = csem kk) {k' : ℕ}
    (hw : ∀ Kt : PUnit → sProp 𝕄, wpE (defs₀ (F := F)) 𝒱₀ (c : Thread nD τ) none Set.univ w Kt = waitSpec (c : Thread nD τ) Set.univ sm k' Kt)
    (hk : k' = (dutiesC kk).card * amountC kk) (O : CellTallies nD τ sig Unit)
    (hmay : (levAts L lv : sProp 𝕄) ⊢ MayWait (c : Thread nD τ) (csem kk) () O)
    {α : Type} {Q : α → sProp 𝕄} {k : PUnit → Prog (TpuEff nD τ sig (Elt F) Λ₀ .tc) α} :
    iprop(recs m K ∗ levAts L lv ∗ cred (tallyAt (kcell (c, kk)) () ((dutiesC kk).card * amountC kk)) ∗ owing c O ∗ atPos ER (kcell (c, kk)) 0 ∅ 0)
      ⊢ iprop(((owing c O ∗ atPos ER (kcell (c, kk)) 1 ∅ 0 ∗ bigSep (dutiesC kk) (fun d => payC m c d kk)) -∗ WP c (k ⟨⟩) Q)
          -∗ WP c (.op w k) Q) := by
  subst hsm; subst hk
  iintro ⟨#HR, #Hlev, Hc, HO, Hat⟩ Hk
  unfold owing
  icases HO with ⟨%W, HO⟩
  ihave H1 := (recs_at m K (c, kk)) $$ HR
  icases H1 with ⟨HI, -⟩
  iapply (Rounds.wp_wait_rest_token 𝒱₀ ER (rd m) (c : Thread nD τ) none (κ := K (c, kk)) hw (Set.mem_univ _) () (O := O) (W := W)
      (R := 0) (m := 0) (T := ∅) (by rw [Nat.zero_add]; exact (expect_eq m c kk).symm)) $$ [HI Hc HO Hat]
  · isplitl [HI]; · iexact HI
    isplitl [Hc]; · iexact Hc
    isplitl [HO]; · iexact HO
    isplitr; · iapply hmay; iexact Hlev
    iexact Hat
  iintro ⟨HO, Hat, -, Hpay⟩
  iapply Hk
  isplitl [HO]; · iexists _; iexact HO
  isplitl [Hat]; · iexact Hat
  iapply (Entails.of_eq (rest_eq m c kk)); iexact Hpay

/-- The wait on send cell `j`, while the transfers `l` are to come: the source rows are back. -/
theorem wp_wait_send (j : Fin 6) (c : Dev nD) (l : List (Fin 6)) {w : TpuEff nD τ sig (Elt F) Λ₀ .tc PUnit} {s : DmaSem sig} (hs : s = sS j) {k' : ℕ}
    (hw : ∀ Kt : PUnit → sProp 𝕄, wpE (defs₀ (F := F)) 𝒱₀ (c : Thread nD τ) none Set.univ w Kt = waitSpec (c : Thread nD τ) Set.univ (.dma s) k' Kt)
    (hk : k' = credit j)
    {α : Type} {Q : α → sProp 𝕄} {k : PUnit → Prog (TpuEff nD τ sig (Elt F) Λ₀ .tc) α} :
    iprop(recs m K ∗ levAts L lv ∗ cred (tallyAt (sendCell j c) () (credit j)) ∗ owing c (recvOwed c l) ∗ atPos ER (sendCell j c) 0 ∅ 0)
      ⊢ iprop(((owing c (recvOwed c l) ∗ atPos ER (sendCell j c) 1 ∅ 0 ∗ src m j c) -∗ WP c (k ⟨⟩) Q) -∗ WP c (.op w k) Q) := by
  have hc : (dutiesC (.send j)).card * amountC (.send j) = credit j := Nat.one_mul _
  have h := wp_wait_cell m K (.send j) c (w := w) (sm := .dma s) (by rw [hs]; rfl) hw (by rw [hc, hk]) (recvOwed c l)
    (mayWait_recvOwed c (.send j) l fun j' _ => by show 0 < (if _ then _ else _); split <;> omega) (Q := Q) (k := k)
  rw [hc, show bigSep (dutiesC (.send j)) (fun d => payC m c d (.send j)) = src m j c from bigSep_singleton] at h
  exact h

/-- The wait on receive cell `j`, while only transfers to receive cells of higher rank are to come: the slot has arrived. -/
theorem wp_wait_recv (j : Fin 6) (c : Dev nD) (l : List (Fin 6)) (hl : ∀ j' ∈ l, rank (.recv j) < rank (.recv j'))
    {w : TpuEff nD τ sig (Elt F) Λ₀ .tc PUnit} {s : DmaSem sig} (hs : s = rS j) {k' : ℕ}
    (hw : ∀ Kt : PUnit → sProp 𝕄, wpE (defs₀ (F := F)) 𝒱₀ (c : Thread nD τ) none Set.univ w Kt = waitSpec (c : Thread nD τ) Set.univ (.dma s) k' Kt)
    (hk : k' = credit j)
    {α : Type} {Q : α → sProp 𝕄} {k : PUnit → Prog (TpuEff nD τ sig (Elt F) Λ₀ .tc) α} :
    iprop(recs m K ∗ levAts L lv ∗ cred (tallyAt (recvCell j c) () (credit j)) ∗ owing c (recvOwed c l) ∗ atPos ER (recvCell j c) 0 ∅ 0)
      ⊢ iprop(((owing c (recvOwed c l) ∗ atPos ER (recvCell j c) 1 ∅ 0 ∗ slotPts c j (landed m c)) -∗ WP c (k ⟨⟩) Q) -∗ WP c (.op w k) Q) := by
  have hc : (dutiesC (.recv j)).card * amountC (.recv j) = credit j := Nat.one_mul _
  have h := wp_wait_cell m K (.recv j) c (w := w) (sm := .dma s) (by rw [hs]; rfl) hw (by rw [hc, hk]) (recvOwed c l)
    (mayWait_recvOwed c (.recv j) l hl) (Q := Q) (k := k)
  rw [hc, show bigSep (dutiesC (.recv j)) (fun d => payC m c d (.recv j)) = slotPts c j (landed m c) from bigSep_singleton] at h
  exact h

/-- The wait on the barrier, every transfer still to come: the mates' slots for this device's transfers. -/
theorem wp_wait_bar (c : Dev nD) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.reg barS) k' Kt)
    (hk : k' = 6)
    {α : Type} {Q : α → sProp 𝕄} {k : PUnit → Prog (TpuEff nD τ sig (Elt F) Λ₀ .tc) α} :
    iprop(recs m K ∗ levAts L lv ∗ cred (tallyAt (barCell c) () 6) ∗ owing c (barOwed c []) ∗ atPos ER (barCell c) 0 ∅ 0)
      ⊢ iprop(((owing c (barOwed c []) ∗ atPos ER (barCell c) 1 ∅ 0 ∗ bigSep Finset.univ (fun d => iprop(∃ f, slotPts (mate d c) d f)))
          -∗ WP c (k ⟨⟩) Q) -∗ WP c (.op w k) Q) := by
  have hc : (dutiesC .bar).card * amountC .bar = 6 := rfl
  have h := wp_wait_cell m K .bar c (w := w) (sm := .reg barS) rfl hw (by rw [hc, hk]) (barOwed c [])
    (mayWait_recvOwed c .bar [0, 1, 2, 3, 4, 5] (by decide)) (Q := Q) (k := k)
  rw [hc] at h
  exact h

/-! ## Closing the cells -/

/-- Its cells closed, their counters at zero are the device's again. -/
theorem close_all (c : Dev nD) :
    iprop(recs m K ∗ bigSep Finset.univ (fun k : CI => atPos ER (kcell (c, k)) 1 ∅ 0))
      ⊢ iprop(|={Set.univ}=> bigSep Finset.univ (fun k : CI => semVal (kcell (c, k)) 0)) := by
  refine BIBase.Entails.trans ?_ (bigSep_fupd _ _)
  refine bigSep_with_persistent fun k _ => ?_
  iintro ⟨#HR, Hat⟩
  ihave H1 := (recs_at m K (c, k)) $$ HR
  icases H1 with ⟨HI, -⟩
  iapply (Rounds.cell_close ER (rd m) (κ := K (c, k)) (Set.mem_univ _) (fun h => h) (R := 1) (duties_later m _)) $$ [HI Hat]
  isplitl [HI]; · iexact HI
  iexact Hat

end Cert.MoE

end
-- ==== Proof.Compute.lean ====
/-
# The body up to the barrier

The six signals, the loads of the four arguments, the accumulator, and its sixteen chunks stored into the partial result's
buffer; then the wait on the barrier.
-/
module

public import proofs.«01_k».proof.Proof.Steps
public import Idealize.ShloMosaic.Lib.Pipeline.Value

@[expose] public section

set_option maxRecDepth 16384

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- A whole buffer of device `c` at given contents. -/
abbrev bufP (c : Dev nD) (b : Ref sig .tc) (X : b.ty.Contents (Elt F)) : sProp 𝕄 := iprop(((c : Thread nD τ).loc b) ↦{fullShare} X)

theorem WP_ret (c : Dev nD) {α : Type} {a : α} {Q : α → sProp 𝕄} : Q a ⊢ WP c (.ret a) Q := by
  unfold WP; rw [wp_ret]; iintro H; imodintro; iexact H

/-! ## What the loads of the arguments read -/

theorem zero2 : (![0, 0] : Fin 2 → Nat) = fun _ => 0 := funext fun a => by fin_cases a <;> rfl

theorem read_x (f : (cc0_stg0_0 : Ref sig .tc).ty.Contents (Elt F)) :
    (Memref.whole cc0_stg0_0 : Memref sig .tc .vmem S1024x256 .bf16).view.readAt (Elt F)
      (Rect.unit (s := S1024x256) ![0, 0] S1024x256.size inb_S1024x256_S1024x256_0_0).toLoadRect f = f :=
  Memref.readAt_unit_zero (Elt F) cc0_stg0_0 zero2 _ f
theorem read_g (f : (cc0_stg1_0 : Ref sig .tc).ty.Contents (Elt F)) :
    (Memref.whole cc0_stg1_0 : Memref sig .tc .vmem S256x64 .bf16).view.readAt (Elt F)
      (Rect.unit (s := S256x64) ![0, 0] S256x64.size inb_S256x64_S256x64_0_0).toLoadRect f = f :=
  Memref.readAt_unit_zero (Elt F) cc0_stg1_0 zero2 _ f

/-- A column of the expert indices, -/
theorem read_i (k : Fin 2) {off : Fin 2 → ℕ} (ho : off = ![0, k.val]) (inb : ∀ a, off a + S1024x1.size a ≤ S1024x2.size a)
    (f : (cc0_stg2_0 : Ref sig .tc).ty.Contents (Elt F)) :
    (Memref.whole cc0_stg2_0 : Memref sig .tc .vmem S1024x2 .i32).view.readAt (Elt F)
      (Rect.unit (s := S1024x2) off S1024x1.size inb).toLoadRect f = idxCol f k := by
  subst ho
  funext y
  have h1 : (y 1).val = 0 := by have : (y 1).val < 1 := (y 1).isLt; omega
  refine congrArg f (funext fun a => Fin.ext ?_)
  match a with
  | ⟨0, _⟩ => show 0 + 1 * (y 0).val = (y 0).val; omega
  | ⟨1, _⟩ => show k.val + 1 * (y 1).val = k.val; omega

/-- an expert's weights. -/
theorem read_w (k : Fin 4) {off : Fin 3 → ℕ} (ho : off = ![k.val, 0, 0]) (inb : ∀ a, off a + S1x256x512.size a ≤ S4x256x512.size a)
    (f : (cc0_stg3_0 : Ref sig .tc).ty.Contents (Elt F)) :
    (Memref.whole cc0_stg3_0 : Memref sig .tc .vmem S4x256x512 .bf16).view.readAt (Elt F)
      (Rect.unit (s := S4x256x512) off S1x256x512.size inb).toLoadRect f = expertW f k := by
  subst ho
  funext y
  have h1 : (y 0).val = 0 := by have : (y 0).val < 1 := (y 0).isLt; omega
  refine congrArg f (funext fun a => Fin.ext ?_)
  match a with
  | ⟨0, _⟩ => show k.val + 1 * (y 0).val = k.val; omega
  | ⟨1, _⟩ => show 0 + 1 * (y 1).val = (y 1).val; omega
  | ⟨2, _⟩ => show 0 + 1 * (y 2).val = (y 2).val; omega

/-- The loads of them. -/
theorem wp_load_i (c : Dev nD) (k : Fin 2) (off : Fin 2 → ℕ) (ho : off = ![0, k.val]) {inb : ∀ a, off a + S1024x1.size a ≤ S1024x2.size a}
    {hl : (Memref.whole cc0_stg2_0 : Memref sig .tc .vmem S1024x2 .i32).view.LoadsAt (Rect.unit (s := S1024x2) off S1024x1.size inb).toLoadRect}
    {f : (cc0_stg2_0 : Ref sig .tc).ty.Contents (Elt F)} {α : Type} {Q : α → sProp 𝕄}
    {k' : (S1024x1.Idx → Elt F .i32) → Prog (TpuEff nD τ sig (Elt F) Λ₀ .tc) α} :
    bufP c cc0_stg2_0 f
      ⊢ iprop((bufP c cc0_stg2_0 f -∗ WP c (k' (idxCol f k)) Q)
        -∗ WP c (.op (.load (Memref.whole cc0_stg2_0 : Memref sig .tc .vmem S1024x2 .i32) (Rect.unit (s := S1024x2) off S1024x1.size inb).toLoadRect hl) k') Q) := by
  iintro Hb Hk
  iapply (wp_load 𝒱₀ (c : Thread nD τ) none Set.univ (m := (Memref.whole cc0_stg2_0 : Memref sig .tc .vmem S1024x2 .i32)) (Finset.subset_univ _)) $$ Hb
  iintro Hb
  rw [read_i k ho inb f]
  iapply Hk; iexact Hb

theorem wp_load_w (c : Dev nD) (k : Fin 4) (off : Fin 3 → ℕ) (ho : off = ![k.val, 0, 0]) {inb : ∀ a, off a + S1x256x512.size a ≤ S4x256x512.size a}
    {hl : (Memref.whole cc0_stg3_0 : Memref sig .tc .vmem S4x256x512 .bf16).view.LoadsAt (Rect.unit (s := S4x256x512) off S1x256x512.size inb).toLoadRect}
    {f : (cc0_stg3_0 : Ref sig .tc).ty.Contents (Elt F)} {α : Type} {Q : α → sProp 𝕄}
    {k' : (S1x256x512.Idx → Elt F .bf16) → Prog (TpuEff nD τ sig (Elt F) Λ₀ .tc) α} :
    bufP c cc0_stg3_0 f
      ⊢ iprop((bufP c cc0_stg3_0 f -∗ WP c (k' (expertW f k)) Q)
        -∗ WP c (.op (.load (Memref.whole cc0_stg3_0 : Memref sig .tc .vmem S4x256x512 .bf16) (Rect.unit (s := S4x256x512) off S1x256x512.size inb).toLoadRect hl) k') Q) := by
  iintro Hb Hk
  iapply (wp_load 𝒱₀ (c : Thread nD τ) none Set.univ (m := (Memref.whole cc0_stg3_0 : Memref sig .tc .vmem S4x256x512 .bf16)) (Finset.subset_univ _)) $$ Hb
  iintro Hb
  rw [read_w k ho inb f]
  iapply Hk; iexact Hb

/-! ## The chunks -/

/-- Chunk `k` of the accumulator is the rows it is sliced from. -/
theorem chunk_eq (lo : ℕ) (v : S1024x512.Idx → Elt F .bf16) (h : lo + 64 ≤ 1024) (hs : S1024x512.Slices ![lo, 0] S64x512) :
    extractStridedSlice S64x512 ![lo, 0] v hs = rows v lo h := by
  funext y
  refine congrArg v (funext fun a => Fin.ext ?_)
  match a with
  | ⟨0, _⟩ => rfl
  | ⟨1, _⟩ => show 0 + (y 1).val = (y 1).val; omega

/-- The partial result's buffer, the first `n` chunks in place. -/
def filledP (c : Dev nD) (n : ℕ) : sProp 𝕄 := iprop(∃ f : PBuf F, ⌜Filled m c n f⌝ ∗ bufP c cc0_scratch0 f)

/-- A chunk's step: a load whose result is not used, and its store. -/
theorem wp_chunk (c : Dev nD) (k : Fin 16) (n n' : ℕ) (hn : n = k.val) (hn' : n' = k.val + 1) (off : Fin 2 → ℕ) (ho : off = ![chunkLo k, 0])
    {inb : ∀ a, off a + S64x512.size a ≤ S1024x512.size a} (w : S64x512.Idx → Elt F .bf16)
    (hw : w = rows (k0_pay8 (acc m c)) (64 * k.val) (by have := k.isLt; omega))
    {hl : (Memref.whole cc0_scratch0 : Memref sig .tc .vmem S1024x512 .bf16).view.LoadsAt (Rect.unit (s := S1024x512) off S64x512.size inb).toLoadRect}
    {hx : ((Memref.whole cc0_scratch0 : Memref sig .tc .vmem S1024x512 .bf16).access (Rect.unit (s := S1024x512) off S64x512.size inb)).Stores Finset.univ}
    {hm : (Finset.univ : Finset (Rect.unit (s := S1024x512) off S64x512.size inb).shape.Idx) = Finset.univ
      ∨ ∀ a, (Rect.unit (s := S1024x512) off S64x512.size inb).stride a = 1}
    {α : Type} {Q : α → sProp 𝕄} {k' : PUnit → Prog (TpuEff nD τ sig (Elt F) Λ₀ .tc) α} :
    filledP m c n
      ⊢ iprop((filledP m c n' -∗ WP c (k' ⟨⟩) Q)
        -∗ WP c (.op (.load (Memref.whole cc0_scratch0 : Memref sig .tc .vmem S1024x512 .bf16) (Rect.unit (s := S1024x512) off S64x512.size inb).toLoadRect hl)
            fun _ => .op (.store (Memref.whole cc0_scratch0 : Memref sig .tc .vmem S1024x512 .bf16) (Rect.unit (s := S1024x512) off S64x512.size inb) w Finset.univ hx hm) k') Q) := by
  subst hn; subst hn'
  unfold filledP
  iintro ⟨%f, %hf, Hb⟩ Hk
  iapply (wp_load 𝒱₀ (c : Thread nD τ) none Set.univ (m := (Memref.whole cc0_scratch0 : Memref sig .tc .vmem S1024x512 .bf16)) (Finset.subset_univ _)) $$ Hb
  iintro Hb
  iapply (wp_store 𝒱₀ (c : Thread nD τ) none Set.univ (m := (Memref.whole cc0_scratch0 : Memref sig .tc .vmem S1024x512 .bf16))
    (r := Rect.unit (s := S1024x512) off S64x512.size inb) (Mk := Finset.univ) (Finset.subset_univ _)) $$ Hb
  iintro Hb
  iapply Hk
  iexists _
  isplitr
  · ipureintro; exact filled_succ m c k ho inb f hf w hw
  iexact Hb

/-! ## The parts -/

abbrev prog1 := k0_part1 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3
abbrev prog2 (d0 : Dev nD) (v3 v20 : BitVec 32) (v21 : Sems sig S_) (v34 : BitVec 32) := k0_part2 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 d0 v3 v20 v21 v34
abbrev prog3 (v2 : BitVec 32) (v53 : FVec F S1024x256 .bf16) (v65 : FVec F S1024x64 .f32) := k0_part3 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 v2 v53 v65
abbrev prog4 (v2 : BitVec 32) (v53 : FVec F S1024x256 .bf16) (v70 : IVec S1024x64 32) (v81 : FVec F S1024x64 .f32) (v98 : FVec F S1024x512 .f32)
    (v106 : FVec F S1024x1 .f32) := k0_part4 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 v2 v53 v70 v81 v98 v106
abbrev prog5 (v146 : FVec F S1024x512 .f32) := k0_part5 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 v146
abbrev prog6 (v3 : BitVec 32) (v21 : Sems sig S_) (v147 : FVec F S1024x512 .bf16) (v180 : FVec F S64x512 .bf16) := k0_part6 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 v3 v21 v147 v180

abbrev barA : Sems sig S_ := SemArray.scalar (sig.barrier 0 rfl)

theorem wp_part1 (c : Dev nD) (f : SBuf F) {Q} :
    iprop(recs m K ∗ owing c (barOwed c [0, 3, 1, 4, 2, 5]) ∗ dutyTok ER (barCell (mate 0 c)) 0 0 ∗ slotPts c 0 f
        ∗ dutyTok ER (barCell (mate 3 c)) 0 3 ∗ slotPts c 3 f)
      ⊢ iprop((owing c (barOwed c [1, 4, 2, 5]) -∗ ∀ v3 : BitVec 32, ∀ v20 : BitVec 32, ∀ v34 : BitVec 32, Q ⟨c, devWord c, v3, v20, barA, v34⟩)
        -∗ WP c (prog1 (F := F)) Q) := by
  unfold prog1
  simp only [k0_part1_eq_skeleton]; unfold k0_part1_skel
  simp only [semSignalWord, semWaitWord, Prog.lift, Prog.bind_op, Prog.bind_ret, Prog.pure_eq_ret, Prog.bind_assoc, wp_deviceId]
  iintro ⟨#HR, HO, Ht0, Hs0, Ht3, Hs3⟩ Hk
  iapply (wp_signal_mate m K 0 c _ (dev1_eq c) (by decide) (barOwed c [3, 1, 4, 2, 5]) f) $$ [HO Ht0 Hs0]
  · isplitr; · iexact HR
    isplitl [HO]; · iexact HO
    isplitl [Ht0] <;> iassumption
  iintro HO
  iapply (wp_signal_mate m K 3 c _ (dev2_eq c) (by decide) (barOwed c [1, 4, 2, 5]) f) $$ [HO Ht3 Hs3]
  · isplitr; · iexact HR
    isplitl [HO]; · iexact HO
    isplitl [Ht3] <;> iassumption
  iintro HO
  iapply WP_ret
  ihave Hk := Hk $$ HO
  iapply Hk

theorem wp_part2 (c : Dev nD) (f : SBuf F) (X : (cc0_stg0_0 : Ref sig .tc).ty.Contents (Elt F)) (G : (cc0_stg1_0 : Ref sig .tc).ty.Contents (Elt F))
    (v3 v20 v34 : BitVec 32) {Q} :
    iprop(recs m K ∗ owing c (barOwed c [1, 4, 2, 5]) ∗ dutyTok ER (barCell (mate 1 c)) 0 1 ∗ slotPts c 1 f
        ∗ dutyTok ER (barCell (mate 4 c)) 0 4 ∗ slotPts c 4 f ∗ dutyTok ER (barCell (mate 2 c)) 0 2 ∗ slotPts c 2 f
        ∗ dutyTok ER (barCell (mate 5 c)) 0 5 ∗ slotPts c 5 f ∗ bufP c cc0_stg0_0 X ∗ bufP c cc0_stg1_0 G)
      ⊢ iprop(((owing c (barOwed c []) ∗ bufP c cc0_stg0_0 X ∗ bufP c cc0_stg1_0 G) -∗ Q ⟨k0_pay2 X, k0_pay3 X G⟩)
        -∗ WP c (prog2 (F := F) c v3 v20 barA v34) Q) := by
  unfold prog2
  simp only [k0_part2_eq_skeleton]; unfold k0_part2_skel
  simp only [semSignalWord, semWaitWord, Prog.lift, Prog.bind_op, Prog.bind_ret, Prog.pure_eq_ret, Prog.bind_assoc]
  iintro ⟨#HR, HO, Ht1, Hs1, Ht4, Hs4, Ht2, Hs2, Ht5, Hs5, HX, HG⟩ Hk
  iapply (wp_signal_mate m K 1 c _ (dev3_eq c) (by decide) (barOwed c [4, 2, 5]) f) $$ [HO Ht1 Hs1]
  · isplitr; · iexact HR
    isplitl [HO]; · iexact HO
    isplitl [Ht1] <;> iassumption
  iintro HO
  iapply (wp_signal_mate m K 4 c _ (dev4_eq c) (by decide) (barOwed c [2, 5]) f) $$ [HO Ht4 Hs4]
  · isplitr; · iexact HR
    isplitl [HO]; · iexact HO
    isplitl [Ht4] <;> iassumption
  iintro HO
  iapply (wp_signal_mate m K 2 c _ (dev5_eq c) (by decide) (barOwed c [5]) f) $$ [HO Ht2 Hs2]
  · isplitr; · iexact HR
    isplitl [HO]; · iexact HO
    isplitl [Ht2] <;> iassumption
  iintro HO
  iapply (wp_signal_mate m K 5 c _ (dev6_eq c) (by decide) (barOwed c []) f) $$ [HO Ht5 Hs5]
  · isplitr; · iexact HR
    isplitl [HO]; · iexact HO
    isplitl [Ht5] <;> iassumption
  iintro HO
  iapply (wp_load 𝒱₀ (c : Thread nD τ) none Set.univ (m := (Memref.whole cc0_stg0_0 : Memref sig .tc .vmem S1024x256 .bf16)) (Finset.subset_univ _)) $$ HX
  iintro HX
  rw [read_x]
  iapply (wp_load 𝒱₀ (c : Thread nD τ) none Set.univ (m := (Memref.whole cc0_stg1_0 : Memref sig .tc .vmem S256x64 .bf16)) (Finset.subset_univ _)) $$ HG
  iintro HG
  rw [read_g]
  iapply WP_ret
  iapply Hk
  isplitl [HO]; · iexact HO
  isplitl [HX] <;> iassumption

theorem wp_part3 (c : Dev nD) (v2 : BitVec 32) (v53 : FVec F S1024x256 .bf16) (v65 : FVec F S1024x64 .f32)
    (I : (cc0_stg2_0 : Ref sig .tc).ty.Contents (Elt F)) (W : (cc0_stg3_0 : Ref sig .tc).ty.Contents (Elt F)) {Q} :
    iprop(bufP c cc0_stg2_0 I ∗ bufP c cc0_stg3_0 W)
      ⊢ iprop(((bufP c cc0_stg2_0 I ∗ bufP c cc0_stg3_0 W)
            -∗ Q ⟨iota .tc S1024x64 32 [1] iota_S1024x64_d1_w32, k0_pay4 v65 (idxCol I 0) (idxCol I 1),
                k0_pay5 v2 v53 v65 (idxCol I 0) (idxCol I 1) (expertW W 0), k0_pay6 v2 v65 (idxCol I 0) (idxCol I 1)⟩)
        -∗ WP c (prog3 (F := F) v2 v53 v65) Q) := by
  unfold prog3
  simp only [k0_part3_eq_skeleton]; unfold k0_part3_skel
  simp only [Prog.lift, Prog.bind_op, Prog.bind_ret, Prog.pure_eq_ret, Prog.bind_assoc]
  iintro ⟨HI, HW⟩ Hk
  iapply (wp_load_i c 0 ![0, 0] rfl) $$ HI; iintro HI
  iapply (wp_load_i c 1 ![0, 1] rfl) $$ HI; iintro HI
  iapply (wp_load_w c 0 ![0, 0, 0] rfl) $$ HW; iintro HW
  iapply WP_ret
  iapply Hk
  isplitl [HI] <;> iassumption

theorem wp_part4 (c : Dev nD) (v2 : BitVec 32) (v53 : FVec F S1024x256 .bf16) (v70 : IVec S1024x64 32) (v81 : FVec F S1024x64 .f32)
    (v98 : FVec F S1024x512 .f32) (v106 : FVec F S1024x1 .f32) (W : (cc0_stg3_0 : Ref sig .tc).ty.Contents (Elt F)) {Q} :
    bufP c cc0_stg3_0 W
      ⊢ iprop((bufP c cc0_stg3_0 W -∗ Q (k0_pay7 v2 v53 v70 v81 v98 v106 (expertW W 1) (expertW W 2) (expertW W 3)))
        -∗ WP c (prog4 (F := F) v2 v53 v70 v81 v98 v106) Q) := by
  unfold prog4
  simp only [k0_part4_eq_skeleton]; unfold k0_part4_skel
  simp only [Prog.lift, Prog.bind_op, Prog.bind_ret, Prog.pure_eq_ret, Prog.bind_assoc]
  iintro HW Hk
  iapply (wp_load_w c 1 ![1, 0, 0] rfl) $$ HW; iintro HW
  iapply (wp_load_w c 2 ![2, 0, 0] rfl) $$ HW; iintro HW
  iapply (wp_load_w c 3 ![3, 0, 0] rfl) $$ HW; iintro HW
  iapply WP_ret
  iapply Hk; iexact HW

theorem wp_part5 (c : Dev nD) {Q} :
    filledP m c 0
      ⊢ iprop((filledP m c 8 -∗ Q ⟨k0_pay8 (acc m c), k0_pay17 (acc m c)⟩)
        -∗ WP c (prog5 (F := F) (acc m c)) Q) := by
  unfold prog5
  simp only [k0_part5_eq_skeleton]; unfold k0_part5_skel
  simp only [Prog.lift, Prog.bind_op, Prog.bind_ret, Prog.pure_eq_ret, Prog.bind_assoc]
  iintro Hf Hk
  iapply (wp_chunk m c 0 0 1 rfl rfl ![0, 0] rfl _ ((shapeCast_self _ _).trans (chunk_eq _ _ _ _))) $$ Hf; iintro Hf
  iapply (wp_chunk m c 1 1 2 rfl rfl ![256, 0] rfl _ ((shapeCast_self _ _).trans (chunk_eq _ _ _ _))) $$ Hf; iintro Hf
  iapply (wp_chunk m c 2 2 3 rfl rfl ![512, 0] rfl _ ((shapeCast_self _ _).trans (chunk_eq _ _ _ _))) $$ Hf; iintro Hf
  iapply (wp_chunk m c 3 3 4 rfl rfl ![768, 0] rfl _ ((shapeCast_self _ _).trans (chunk_eq _ _ _ _))) $$ Hf; iintro Hf
  iapply (wp_chunk m c 4 4 5 rfl rfl ![64, 0] rfl _ ((shapeCast_self _ _).trans (chunk_eq _ _ _ _))) $$ Hf; iintro Hf
  iapply (wp_chunk m c 5 5 6 rfl rfl ![320, 0] rfl _ ((shapeCast_self _ _).trans (chunk_eq _ _ _ _))) $$ Hf; iintro Hf
  iapply (wp_chunk m c 6 6 7 rfl rfl ![576, 0] rfl _ ((shapeCast_self _ _).trans (chunk_eq _ _ _ _))) $$ Hf; iintro Hf
  iapply (wp_chunk m c 7 7 8 rfl rfl ![832, 0] rfl _ ((shapeCast_self _ _).trans (chunk_eq _ _ _ _))) $$ Hf; iintro Hf
  iapply WP_ret
  iapply Hk; iexact Hf

theorem wp_part6 (c : Dev nD) (v3 : BitVec 32) {Q} :
    iprop(recs m K ∗ levAts L lv ∗ filledP m c 8 ∗ cred (tallyAt (barCell c) () 6) ∗ owing c (barOwed c []) ∗ atPos ER (barCell c) 0 ∅ 0)
      ⊢ iprop(((bufP c cc0_scratch0 (part m c) ∗ owing c (barOwed c []) ∗ atPos ER (barCell c) 1 ∅ 0
            ∗ bigSep Finset.univ (fun d => iprop(∃ f, slotPts (mate d c) d f))) -∗ ∀ v212 : BitVec 32, Q v212)
        -∗ WP c (prog6 (F := F) v3 barA (k0_pay8 (acc m c)) (k0_pay17 (acc m c))) Q) := by
  unfold prog6
  simp only [k0_part6_eq_skeleton]; unfold k0_part6_skel
  simp only [semSignalWord, semWaitWord, Prog.lift, Prog.bind_op, Prog.bind_ret, Prog.pure_eq_ret, Prog.bind_assoc]
  iintro ⟨#HR, #Hlev, Hf, Hc, HO, Hat⟩ Hk
  iapply (wp_chunk m c 8 8 9 rfl rfl ![128, 0] rfl _ ((shapeCast_self _ _).trans (chunk_eq _ _ _ slices_S1024x512_o512_0_S64x512))) $$ Hf; iintro Hf
  iapply (wp_chunk m c 9 9 10 rfl rfl ![384, 0] rfl _ ((shapeCast_self _ _).trans (chunk_eq _ _ _ _))) $$ Hf; iintro Hf
  iapply (wp_chunk m c 10 10 11 rfl rfl ![640, 0] rfl _ ((shapeCast_self _ _).trans (chunk_eq _ _ _ _))) $$ Hf; iintro Hf
  iapply (wp_chunk m c 11 11 12 rfl rfl ![896, 0] rfl _ ((shapeCast_self _ _).trans (chunk_eq _ _ _ _))) $$ Hf; iintro Hf
  iapply (wp_chunk m c 12 12 13 rfl rfl ![192, 0] rfl _ ((shapeCast_self _ _).trans (chunk_eq _ _ _ _))) $$ Hf; iintro Hf
  iapply (wp_chunk m c 13 13 14 rfl rfl ![448, 0] rfl _ ((shapeCast_self _ _).trans (chunk_eq _ _ _ _))) $$ Hf; iintro Hf
  iapply (wp_chunk m c 14 14 15 rfl rfl ![704, 0] rfl _ ((shapeCast_self _ _).trans (chunk_eq _ _ _ _))) $$ Hf; iintro Hf
  iapply (wp_chunk m c 15 15 16 rfl rfl ![960, 0] rfl _ ((shapeCast_self _ _).trans (chunk_eq _ _ _ _))) $$ Hf; iintro Hf
  iapply (wp_wait_bar m K c (wpE_semWait_eq 𝒱₀ (c : Thread nD τ) none Set.univ) (by decide)) $$ [Hc HO Hat]
  · isplitr; · iexact HR
    isplitr; · iexact Hlev
    isplitl [Hc]; · iexact Hc
    isplitl [HO] <;> iassumption
  iintro ⟨HO, Hat, Hs⟩
  unfold filledP
  icases Hf with ⟨%f, %hf, Hb⟩
  have hf' := filled_all m c f hf
  subst hf'
  iapply WP_ret
  ihave Hk := Hk $$ [Hb HO Hat Hs]
  · isplitl [Hb]; · iexact Hb
    isplitl [HO]; · iexact HO
    isplitl [Hat] <;> iassumption
  iapply Hk

end Cert.MoE

end
-- ==== Proof.Exchange.lean ====
/-
# The body from the barrier on

The partial result's buffer in the pieces the transfers take, the two exchanges with their waits, the own rows' sum stored
between them, and the result's rows stored at the end.
-/
module

public import proofs.«01_k».proof.Proof.Compute

@[expose] public section

set_option maxRecDepth 16384

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## The pieces of the buffers -/

/-- Column `q` of the device itself and of its row mates; row `z` of the device itself and of its column mates. -/
def qb (c : Dev nD) : Fin 4 → Fin 4 := Fin.cons (qOf c) fun t : Fin 3 => qOf (mate (rowJ t) c)
def zb (c : Dev nD) : Fin 4 → Fin 4 := Fin.cons (zOf c) fun t : Fin 3 => zOf (mate (colJ t) c)
theorem qb_injective (c : Dev nD) : Function.Injective (qb c) := by revert c; decide
theorem zb_injective (c : Dev nD) : Function.Injective (zb c) := by revert c; decide
theorem qb_surjective (c : Dev nD) : Function.Surjective (qb c) := Finite.injective_iff_surjective.mp (qb_injective c)
theorem zb_surjective (c : Dev nD) : Function.Surjective (zb c) := Finite.injective_iff_surjective.mp (zb_injective c)

/-- The device's own 256 rows; its 64 of them. -/
def ownBig (c : Dev nD) (f : PBuf F) : sProp 𝕄 := rowsPts c (256 * (qOf c).val) 256 f
def ownSmall (c : Dev nD) (f : PBuf F) : sProp 𝕄 := rowsPts c (256 * (qOf c).val + 64 * (zOf c).val) 64 f
def mateBig (c : Dev nD) (t : Fin 3) (f : PBuf F) : sProp 𝕄 := rowsPts c (256 * (qOf (mate (rowJ t) c)).val) 256 f
def mateSmall (c : Dev nD) (t : Fin 3) (f : PBuf F) : sProp 𝕄 := rowsPts c (256 * (qOf c).val + 64 * (zOf (mate (colJ t) c)).val) 64 f

theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-- The buffer is the four blocks of rows, -/
theorem split_big (c : Dev nD) (f : PBuf F) :
    bufP c cc0_scratch0 f = (iprop(ownBig c f ∗ mateBig c 0 f ∗ mateBig c 1 f ∗ mateBig c 2 f) : sProp 𝕄) := by
  refine (Ring.pointsTo_blocks (ℓ := (c : Thread nD τ).loc cc0_scratch0) (fun b : Fin 4 => pRows (256 * (qb c b).val) 256) (fun b b' h => ?_) ?_ f).trans (bigSep_four _)
  · refine Finset.disjoint_left.mpr fun i h1 h2 => h (qb_injective c (Fin.ext ?_))
    rw [mem_pRows] at h1 h2
    omega
  · refine Finset.eq_univ_iff_forall.mpr fun i => ?_
    have hi : (i 0).val < 1024 := (i 0).isLt
    obtain ⟨b, hb⟩ := qb_surjective c ⟨(i 0).val / 256, by omega⟩
    refine Finset.mem_biUnion.mpr ⟨b, Finset.mem_univ _, (mem_pRows ..).mpr ?_⟩
    rw [hb]
    show 256 * ((i 0).val / 256) ≤ _ ∧ _ < 256 * ((i 0).val / 256) + 256
    omega

/-- the own block the four pieces of it. -/
theorem split_small (c : Dev nD) (f : PBuf F) :
    ownBig c f = (iprop(ownSmall c f ∗ mateSmall c 0 f ∗ mateSmall c 1 f ∗ mateSmall c 2 f) : sProp 𝕄) := by
  unfold ownBig rowsPts
  refine (Ring.pointsTo_sub_blocks (ℓ := (c : Thread nD τ).loc cc0_scratch0) (fun b : Fin 4 => pRows (256 * (qOf c).val + 64 * (zb c b).val) 64) (fun b b' h => ?_) _ ?_ f).trans (bigSep_four _)
  · refine Finset.disjoint_left.mpr fun i h1 h2 => h (zb_injective c (Fin.ext ?_))
    rw [mem_pRows] at h1 h2
    omega
  · ext i
    rw [mem_pRows, Finset.mem_biUnion]
    constructor
    · rintro ⟨b, -, hb⟩
      rw [mem_pRows] at hb
      have := (zb c b).isLt
      omega
    · intro hi
      obtain ⟨b, hb⟩ := zb_surjective c ⟨((i 0).val - 256 * (qOf c).val) / 64, by omega⟩
      refine ⟨b, Finset.mem_univ _, (mem_pRows ..).mpr ?_⟩
      rw [hb]
      show 256 * (qOf c).val + 64 * (((i 0).val - 256 * (qOf c).val) / 64) ≤ _ ∧ _ < 256 * (qOf c).val + 64 * (((i 0).val - 256 * (qOf c).val) / 64) + 64
      omega

/-- A row mate's rows are as they were after the own rows' sum is stored. -/
theorem mateBig_part1 (c : Dev nD) (t : Fin 3) : mateBig c t (part1 m c) = (mateBig c t (part m c) : sProp 𝕄) := by
  refine pointsTo_congr fun i hi => part1_other m c i fun h => ?_
  rw [mem_pRows] at hi
  have hne : qOf (mate (rowJ t) c) ≠ qOf c := by
    intro he
    have := qb_injective c (show qb c t.succ = qb c 0 from he)
    exact absurd this (Fin.succ_ne_zero t)
  exact hne (Fin.ext (by omega))

/-- The landing buffer is its six slots. -/
theorem split_slots (c : Dev nD) (f : SBuf F) :
    bufP c cc0_scratch1 f
      = (iprop(slotPts c (rowJ 0) f ∗ slotPts c (rowJ 1) f ∗ slotPts c (rowJ 2) f ∗ slotPts c (colJ 0) f ∗ slotPts c (colJ 1) f
          ∗ slotPts c (colJ 2) f) : sProp 𝕄) := by
  refine (Ring.pointsTo_blocks (ℓ := (c : Thread nD τ).loc cc0_scratch1) slot slot_disjoint slot_cover f).trans ?_
  rw [bigSep_univ_eq_bigSepL [rowJ 0, rowJ 1, rowJ 2, colJ 0, colJ 1, colJ 2] (by decide) (by decide)]
  simp only [bigSepL_cons_cons, bigSepL_singleton]
  rfl

/-! ## Loads of the pieces, and the store of the own rows -/

theorem wp_load_rows (c : Dev nD) (n lo : ℕ) (off : Fin 2 → ℕ) (ho : off = ![lo, 0]) (h : lo + n ≤ 1024)
    {inb : ∀ a, off a + (![n, 512] : Fin 2 → ℕ) a ≤ S1024x512.size a}
    {hl : (Memref.whole cc0_scratch0 : Memref sig .tc .vmem S1024x512 .bf16).view.LoadsAt (Rect.unit (s := S1024x512) off ![n, 512] inb).toLoadRect}
    {f : PBuf F} {α : Type} {Q : α → sProp 𝕄} {k' : ((⟨2, ![n, 512]⟩ : Shape).Idx → Elt F .bf16) → Prog (TpuEff nD τ sig (Elt F) Λ₀ .tc) α} :
    rowsPts c lo n f
      ⊢ iprop((rowsPts c lo n f -∗ WP c (k' (rows f lo h)) Q)
        -∗ WP c (.op (.load (Memref.whole cc0_scratch0 : Memref sig .tc .vmem S1024x512 .bf16) (Rect.unit (s := S1024x512) off ![n, 512] inb).toLoadRect hl) k') Q) := by
  unfold rowsPts
  iintro Hb Hk
  iapply (wp_load_rect 𝒱₀ (c : Thread nD τ) none Set.univ (m := (Memref.whole cc0_scratch0 : Memref sig .tc .vmem S1024x512 .bf16))
    (r := Rect.unit (s := S1024x512) off ![n, 512] inb) (S := pRows lo n) (le_of_eq (set_pSlice ho rfl inb))) $$ Hb
  iintro Hb
  rw [← read_p ho h inb f]
  iapply Hk; iexact Hb

theorem wp_load_slot (c : Dev nD) (n lo : ℕ) (off : Fin 2 → ℕ) (ho : off = ![lo, 0]) (h : lo + n ≤ 960)
    {inb : ∀ a, off a + (![n, 512] : Fin 2 → ℕ) a ≤ S960x512.size a} (j : Fin 6) (hj : slot j = sRows lo n)
    {hl : (Memref.whole cc0_scratch1 : Memref sig .tc .vmem S960x512 .bf16).view.LoadsAt (Rect.unit (s := S960x512) off ![n, 512] inb).toLoadRect}
    {f : SBuf F} {α : Type} {Q : α → sProp 𝕄} {k' : ((⟨2, ![n, 512]⟩ : Shape).Idx → Elt F .bf16) → Prog (TpuEff nD τ sig (Elt F) Λ₀ .tc) α} :
    slotPts c j f
      ⊢ iprop((slotPts c j f -∗ WP c (k' (rows f lo h)) Q)
        -∗ WP c (.op (.load (Memref.whole cc0_scratch1 : Memref sig .tc .vmem S960x512 .bf16) (Rect.unit (s := S960x512) off ![n, 512] inb).toLoadRect hl) k') Q) := by
  unfold slotPts
  rw [hj]
  iintro Hb Hk
  iapply (wp_load_rect 𝒱₀ (c : Thread nD τ) none Set.univ (m := (Memref.whole cc0_scratch1 : Memref sig .tc .vmem S960x512 .bf16))
    (r := Rect.unit (s := S960x512) off ![n, 512] inb) (S := sRows lo n) (le_of_eq (set_sSlice ho rfl inb))) $$ Hb
  iintro Hb
  rw [← read_s ho h inb f]
  iapply Hk; iexact Hb

/-- The load of slot `t` once the row mate's rows have arrived; -/
theorem wp_load_slot_row (c : Dev nD) (t : Fin 3) (off : Fin 2 → ℕ) (ho : off = ![256 * t.val, 0])
    {inb : ∀ a, off a + (![256, 512] : Fin 2 → ℕ) a ≤ S960x512.size a}
    {hl : (Memref.whole cc0_scratch1 : Memref sig .tc .vmem S960x512 .bf16).view.LoadsAt (Rect.unit (s := S960x512) off ![256, 512] inb).toLoadRect}
    {α : Type} {Q : α → sProp 𝕄} {k' : ((⟨2, ![256, 512]⟩ : Shape).Idx → Elt F .bf16) → Prog (TpuEff nD τ sig (Elt F) Λ₀ .tc) α} :
    slotPts c (rowJ t) (landed m c)
      ⊢ iprop((slotPts c (rowJ t) (landed m c) -∗ WP c (k' (big (part m (mate (rowJ t) c)) (qOf c))) Q)
        -∗ WP c (.op (.load (Memref.whole cc0_scratch1 : Memref sig .tc .vmem S960x512 .bf16) (Rect.unit (s := S960x512) off ![256, 512] inb).toLoadRect hl) k') Q) := by
  rw [← rows_landed_row m c t]
  exact wp_load_slot c 256 (256 * t.val) off ho (rowSlot_inb t) (rowJ t) (slot_row t)

/-- of slot `3 + t` once the column mate's have. -/
theorem wp_load_slot_col (c : Dev nD) (t : Fin 3) (off : Fin 2 → ℕ) (ho : off = ![768 + 64 * t.val, 0])
    {inb : ∀ a, off a + (![64, 512] : Fin 2 → ℕ) a ≤ S960x512.size a}
    {hl : (Memref.whole cc0_scratch1 : Memref sig .tc .vmem S960x512 .bf16).view.LoadsAt (Rect.unit (s := S960x512) off ![64, 512] inb).toLoadRect}
    {α : Type} {Q : α → sProp 𝕄} {k' : ((⟨2, ![64, 512]⟩ : Shape).Idx → Elt F .bf16) → Prog (TpuEff nD τ sig (Elt F) Λ₀ .tc) α} :
    slotPts c (colJ t) (landed m c)
      ⊢ iprop((slotPts c (colJ t) (landed m c) -∗ WP c (k' (small (part1 m (mate (colJ t) c)) (qOf c) (zOf c))) Q)
        -∗ WP c (.op (.load (Memref.whole cc0_scratch1 : Memref sig .tc .vmem S960x512 .bf16) (Rect.unit (s := S960x512) off ![64, 512] inb).toLoadRect hl) k') Q) := by
  rw [← rows_landed_col m c t]
  exact wp_load_slot c 64 (768 + 64 * t.val) off ho (colSlot_inb t) (colJ t) (slot_col t)

/-- The load of the own rows; -/
theorem wp_load_own (c : Dev nD) (off : Fin 2 → ℕ) (ho : off = ![256 * (qOf c).val, 0])
    {inb : ∀ a, off a + (![256, 512] : Fin 2 → ℕ) a ≤ S1024x512.size a}
    {hl : (Memref.whole cc0_scratch0 : Memref sig .tc .vmem S1024x512 .bf16).view.LoadsAt (Rect.unit (s := S1024x512) off ![256, 512] inb).toLoadRect}
    {f : PBuf F} {α : Type} {Q : α → sProp 𝕄} {k' : ((⟨2, ![256, 512]⟩ : Shape).Idx → Elt F .bf16) → Prog (TpuEff nD τ sig (Elt F) Λ₀ .tc) α} :
    ownBig c f
      ⊢ iprop((ownBig c f -∗ WP c (k' (big f (qOf c))) Q)
        -∗ WP c (.op (.load (Memref.whole cc0_scratch0 : Memref sig .tc .vmem S1024x512 .bf16) (Rect.unit (s := S1024x512) off ![256, 512] inb).toLoadRect hl) k') Q) :=
  wp_load_rows c 256 (256 * (qOf c).val) off ho (big_inb _)

/-- the store of their sum with what the row mates sent. -/
theorem wp_store_own (c : Dev nD) (off : Fin 2 → ℕ) (ho : off = ![256 * (qOf c).val, 0])
    {inb : ∀ a, off a + (![256, 512] : Fin 2 → ℕ) a ≤ S1024x512.size a}
    {hx : ((Memref.whole cc0_scratch0 : Memref sig .tc .vmem S1024x512 .bf16).access (Rect.unit (s := S1024x512) off ![256, 512] inb)).Stores Finset.univ}
    {hm : (Finset.univ : Finset (Rect.unit (s := S1024x512) off ![256, 512] inb).shape.Idx) = Finset.univ
      ∨ ∀ a, (Rect.unit (s := S1024x512) off ![256, 512] inb).stride a = 1}
    {α : Type} {Q : α → sProp 𝕄} {k' : PUnit → Prog (TpuEff nD τ sig (Elt F) Λ₀ .tc) α} :
    ownBig c (part m c)
      ⊢ iprop((ownBig c (part1 m c) -∗ WP c (k' ⟨⟩) Q)
        -∗ WP c (.op (.store (Memref.whole cc0_scratch0 : Memref sig .tc .vmem S1024x512 .bf16) (Rect.unit (s := S1024x512) off ![256, 512] inb) (sum1 m c) Finset.univ hx hm) k') Q) := by
  unfold ownBig rowsPts
  have hw : ∀ i ∈ pRows (256 * (qOf c).val) 256,
      ((Memref.whole cc0_scratch0 : Memref sig .tc .vmem S1024x512 .bf16).access (Rect.unit (s := S1024x512) off ![256, 512] inb)).write (Elt F)
        (part m c) (sum1 m c) Finset.univ i = part1 m c i := by
    intro i hi
    rw [mem_pRows] at hi
    exact (write_p_mem (n := 256) ho (big_inb _) inb (part m c) (sum1 m c) i hi.1 hi.2).trans
      (show part1 m c i = sum1 m c (ix2 ⟨(i 0).val - 256 * (qOf c).val, by omega⟩ (i 1)) from dif_pos hi).symm
  iintro Hb Hk
  iapply (wp_store 𝒱₀ (c : Thread nD τ) none Set.univ (m := (Memref.whole cc0_scratch0 : Memref sig .tc .vmem S1024x512 .bf16))
    (r := Rect.unit (s := S1024x512) off ![256, 512] inb) (Mk := Finset.univ) (S := pRows (256 * (qOf c).val) 256)
    ((View.setOn_subset_set _ _).trans (le_of_eq (set_pSlice ho rfl inb)))) $$ Hb
  iintro Hb
  iapply Hk
  iapply (Entails.of_eq (pointsTo_congr (ℓ := (c : Thread nD τ).loc cc0_scratch0) (q := fullShare) hw)); iexact Hb

/-! ## The parts -/

abbrev prog7 (d0 : Dev nD) (v3 v20 v212 : BitVec 32) := k0_part7 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 d0 v3 v20 v212
abbrev prog8 (d0 : Dev nD) (v215 v227 : BitVec 32) := k0_part8 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 d0 v215 v227
abbrev prog9 (d0 : Dev nD) (v3 v20 v239 : BitVec 32) := k0_part9 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 d0 v3 v20 v239
abbrev prog10 (d0 : Dev nD) (v3 v20 v298 w : BitVec 32) := k0_part10 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 d0 v3 v20 v298 w
abbrev prog11 (d0 : Dev nD) (v297 v311 : BitVec 32) := k0_part11 (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3 d0 v297 v311

/-- The transfers to row mates 0 and 1. -/
theorem wp_part7 (c : Dev nD) (f0 : SBuf F) (f1 : SBuf F) (v3 v20 v212 : BitVec 32) {Q} :
    iprop(recs m K ∗ levAts L lv ∗ owing c (recvOwed c [rowJ 0, rowJ 1, rowJ 2, colJ 0, colJ 1, colJ 2]) ∗ rowSrc m 0 c ∗ slotPts (mate (rowJ 0) c) (rowJ 0) f0 ∗ dutyTok ER (sendCell (rowJ 0) c) 0 (rowJ 0) ∗ dutyTok ER (recvCell (rowJ 0) (mate (rowJ 0) c)) 0 (rowJ 0) ∗ rowSrc m 1 c ∗ slotPts (mate (rowJ 1) c) (rowJ 1) f1 ∗ dutyTok ER (sendCell (rowJ 1) c) 0 (rowJ 1) ∗ dutyTok ER (recvCell (rowJ 1) (mate (rowJ 1) c)) 0 (rowJ 1))
      ⊢ iprop(((owing c (recvOwed c [rowJ 2, colJ 0, colJ 1, colJ 2]) ∗ cred (tallyAt (sendCell (rowJ 0) c) () (credit (rowJ 0))) ∗ cred (tallyAt (sendCell (rowJ 1) c) () (credit (rowJ 1)))) -∗ ∀ v215 : BitVec 32, ∀ v227 : BitVec 32, ∀ v239 : BitVec 32, Q ⟨v215, v227, v239⟩)
        -∗ WP c (prog7 (F := F) c v3 v20 v212) Q) := by
  unfold prog7
  simp only [k0_part7_eq_skeleton]; unfold k0_part7_skel
  simp only [Prog.lift, Prog.bind_op, Prog.bind_ret, Prog.pure_eq_ret, Prog.bind_assoc]
  iintro ⟨#HR, #Hlev, HO, Hp0, Hs0, Hts0, Htr0, Hp1, Hs1, Hts1, Htr1⟩ Hk
  iapply (wp_send_row m K 0 c _ (dev7_eq c) (off1_eq c 0) rfl rfl rfl (recvOwed c [rowJ 1, rowJ 2, colJ 0, colJ 1, colJ 2]) f0) $$ [HO Hp0 Hs0 Hts0 Htr0]
  · isplitr; · iexact HR
    isplitl [HO]; · iexact HO
    isplitl [Hp0]; · iexact Hp0
    isplitl [Hs0]; · iexact Hs0
    isplitl [Hts0] <;> iassumption
  iintro ⟨Hc0, HO⟩
  iapply (wp_send_row m K 1 c _ (dev8_eq c) (off1_eq c 1) rfl rfl rfl (recvOwed c [rowJ 2, colJ 0, colJ 1, colJ 2]) f1) $$ [HO Hp1 Hs1 Hts1 Htr1]
  · isplitr; · iexact HR
    isplitl [HO]; · iexact HO
    isplitl [Hp1]; · iexact Hp1
    isplitl [Hs1]; · iexact Hs1
    isplitl [Hts1] <;> iassumption
  iintro ⟨Hc1, HO⟩
  iapply WP_ret
  ihave Hk := Hk $$ [HO Hc0 Hc1]
  · isplitl [HO]; · iexact HO
    isplitl [Hc0]; · iexact Hc0
    iexact Hc1
  iapply Hk

/-- The transfer to row mate 2, and the waits for the exchange with row mates 0 and 1. -/
theorem wp_part8 (c : Dev nD) (f2 : SBuf F) (v215 v227 : BitVec 32) {Q} :
    iprop(recs m K ∗ levAts L lv ∗ owing c (recvOwed c [rowJ 2, colJ 0, colJ 1, colJ 2]) ∗ rowSrc m 2 c ∗ slotPts (mate (rowJ 2) c) (rowJ 2) f2 ∗ dutyTok ER (sendCell (rowJ 2) c) 0 (rowJ 2) ∗ dutyTok ER (recvCell (rowJ 2) (mate (rowJ 2) c)) 0 (rowJ 2) ∗ cred (tallyAt (sendCell (rowJ 0) c) () (credit (rowJ 0))) ∗ atPos ER (sendCell (rowJ 0) c) 0 ∅ 0 ∗ cred (tallyAt (recvCell (rowJ 0) c) () (credit (rowJ 0))) ∗ atPos ER (recvCell (rowJ 0) c) 0 ∅ 0 ∗ cred (tallyAt (sendCell (rowJ 1) c) () (credit (rowJ 1))) ∗ atPos ER (sendCell (rowJ 1) c) 0 ∅ 0 ∗ cred (tallyAt (recvCell (rowJ 1) c) () (credit (rowJ 1))) ∗ atPos ER (recvCell (rowJ 1) c) 0 ∅ 0)
      ⊢ iprop(((owing c (recvOwed c [colJ 0, colJ 1, colJ 2]) ∗ cred (tallyAt (sendCell (rowJ 2) c) () (credit (rowJ 2))) ∗ atPos ER (sendCell (rowJ 0) c) 1 ∅ 0 ∗ src m (rowJ 0) c ∗ atPos ER (recvCell (rowJ 0) c) 1 ∅ 0 ∗ slotPts c (rowJ 0) (landed m c) ∗ atPos ER (sendCell (rowJ 1) c) 1 ∅ 0 ∗ src m (rowJ 1) c ∗ atPos ER (recvCell (rowJ 1) c) 1 ∅ 0 ∗ slotPts c (rowJ 1) (landed m c)) -∗ Q ⟨⟩)
        -∗ WP c (prog8 (F := F) c v215 v227) Q) := by
  unfold prog8
  simp only [k0_part8_eq_skeleton]; unfold k0_part8_skel
  simp only [Prog.lift, Prog.bind_op, Prog.bind_ret, Prog.pure_eq_ret, Prog.bind_assoc]
  iintro ⟨#HR, #Hlev, HO, Hp2, Hs2, Hts2, Htr2, Hc0, Has0, Hd0, Har0, Hc1, Has1, Hd1, Har1⟩ Hk
  iapply (wp_send_row m K 2 c _ (dev9_eq c) (off1_eq c 2) rfl rfl rfl (recvOwed c [colJ 0, colJ 1, colJ 2]) f2) $$ [HO Hp2 Hs2 Hts2 Htr2]
  · isplitr; · iexact HR
    isplitl [HO]; · iexact HO
    isplitl [Hp2]; · iexact Hp2
    isplitl [Hs2]; · iexact Hs2
    isplitl [Hts2] <;> iassumption
  iintro ⟨Hc2, HO⟩
  iapply (wp_wait_send m K (rowJ 0) c [colJ 0, colJ 1, colJ 2] rfl (wpE_waitDma2_eq 𝒱₀ (c : Thread nD τ) none Set.univ) (by rw [credit_row]; rfl)) $$ [Hc0 HO Has0]
  · isplitr; · iexact HR
    isplitr; · iexact Hlev
    isplitl [Hc0]; · iexact Hc0
    isplitl [HO] <;> iassumption
  iintro ⟨HO, Has0, Hp0⟩
  iapply (wp_wait_recv m K (rowJ 0) c [colJ 0, colJ 1, colJ 2] (by decide) rfl (wpE_waitDma2_eq 𝒱₀ (c : Thread nD τ) none Set.univ) (by rw [credit_row]; rfl)) $$ [Hd0 HO Har0]
  · isplitr; · iexact HR
    isplitr; · iexact Hlev
    isplitl [Hd0]; · iexact Hd0
    isplitl [HO] <;> iassumption
  iintro ⟨HO, Har0, Hl0⟩
  iapply (wp_wait_send m K (rowJ 1) c [colJ 0, colJ 1, colJ 2] rfl (wpE_waitDma2_eq 𝒱₀ (c : Thread nD τ) none Set.univ) (by rw [credit_row]; rfl)) $$ [Hc1 HO Has1]
  · isplitr; · iexact HR
    isplitr; · iexact Hlev
    isplitl [Hc1]; · iexact Hc1
    isplitl [HO] <;> iassumption
  iintro ⟨HO, Has1, Hp1⟩
  iapply (wp_wait_recv m K (rowJ 1) c [colJ 0, colJ 1, colJ 2] (by decide) rfl (wpE_waitDma2_eq 𝒱₀ (c : Thread nD τ) none Set.univ) (by rw [credit_row]; rfl)) $$ [Hd1 HO Har1]
  · isplitr; · iexact HR
    isplitr; · iexact Hlev
    isplitl [Hd1]; · iexact Hd1
    isplitl [HO] <;> iassumption
  iintro ⟨HO, Har1, Hl1⟩
  iapply WP_ret
  iapply Hk
  isplitl [HO]; · iexact HO
  isplitl [Hc2]; · iexact Hc2
  isplitl [Has0]; · iexact Has0
  isplitl [Hp0]; · iexact Hp0
  isplitl [Har0]; · iexact Har0
  isplitl [Hl0]; · iexact Hl0
  isplitl [Has1]; · iexact Has1
  isplitl [Hp1]; · iexact Hp1
  isplitl [Har1]; · iexact Har1
  iexact Hl1

/-- The waits for the exchange with row mate 2, and the own rows' sum. -/
theorem wp_part9 (c : Dev nD) (v3 v20 v239 : BitVec 32) {Q} :
    iprop(recs m K ∗ levAts L lv ∗ owing c (recvOwed c [colJ 0, colJ 1, colJ 2]) ∗ cred (tallyAt (sendCell (rowJ 2) c) () (credit (rowJ 2))) ∗ atPos ER (sendCell (rowJ 2) c) 0 ∅ 0 ∗ cred (tallyAt (recvCell (rowJ 2) c) () (credit (rowJ 2))) ∗ atPos ER (recvCell (rowJ 2) c) 0 ∅ 0 ∗ slotPts c (rowJ 0) (landed m c) ∗ slotPts c (rowJ 1) (landed m c) ∗ ownBig c (part m c))
      ⊢ iprop(((owing c (recvOwed c [colJ 0, colJ 1, colJ 2]) ∗ atPos ER (sendCell (rowJ 2) c) 1 ∅ 0 ∗ src m (rowJ 2) c ∗ atPos ER (recvCell (rowJ 2) c) 1 ∅ 0 ∗ slotPts c (rowJ 0) (landed m c) ∗ slotPts c (rowJ 1) (landed m c) ∗ slotPts c (rowJ 2) (landed m c) ∗ ownBig c (part1 m c)) -∗ ∀ v297 : BitVec 32, ∀ v298 : BitVec 32, ∀ w : BitVec 32, Q ⟨v297, v298, w⟩)
        -∗ WP c (prog9 (F := F) c v3 v20 v239) Q) := by
  unfold prog9
  simp only [k0_part9_eq_skeleton]; unfold k0_part9_skel
  simp only [Prog.lift, Prog.bind_op, Prog.bind_ret, Prog.pure_eq_ret, Prog.bind_assoc]
  iintro ⟨#HR, #Hlev, HO, Hc2, Has2, Hd2, Har2, Hl0, Hl1, Hown⟩ Hk
  iapply (wp_wait_send m K (rowJ 2) c [colJ 0, colJ 1, colJ 2] rfl (wpE_waitDma2_eq 𝒱₀ (c : Thread nD τ) none Set.univ) (by rw [credit_row]; rfl)) $$ [Hc2 HO Has2]
  · isplitr; · iexact HR
    isplitr; · iexact Hlev
    isplitl [Hc2]; · iexact Hc2
    isplitl [HO] <;> iassumption
  iintro ⟨HO, Has2, Hp2⟩
  iapply (wp_wait_recv m K (rowJ 2) c [colJ 0, colJ 1, colJ 2] (by decide) rfl (wpE_waitDma2_eq 𝒱₀ (c : Thread nD τ) none Set.univ) (by rw [credit_row]; rfl)) $$ [Hd2 HO Har2]
  · isplitr; · iexact HR
    isplitr; · iexact Hlev
    isplitl [Hd2]; · iexact Hd2
    isplitl [HO] <;> iassumption
  iintro ⟨HO, Har2, Hl2⟩
  iapply (wp_load_own c _ (off2_eq c)) $$ Hown; iintro Hown
  iapply (wp_load_slot_row m c 0 ![0, 0] rfl) $$ Hl0; iintro Hl0
  iapply (wp_load_slot_row m c 1 ![256, 0] rfl) $$ Hl1; iintro Hl1
  iapply (wp_load_slot_row m c 2 ![512, 0] rfl) $$ Hl2; iintro Hl2
  iapply (wp_load_own c _ (off2_eq c)) $$ Hown; iintro Hown
  iapply (wp_store_own m c _ (off2_eq c)) $$ Hown; iintro Hown
  iapply WP_ret
  ihave Hk := Hk $$ [HO Has2 Hp2 Har2 Hl0 Hl1 Hl2 Hown]
  · isplitl [HO]; · iexact HO
    isplitl [Has2]; · iexact Has2
    isplitl [Hp2]; · iexact Hp2
    isplitl [Har2]; · iexact Har2
    isplitl [Hl0]; · iexact Hl0
    isplitl [Hl1]; · iexact Hl1
    isplitl [Hl2]; · iexact Hl2
    iexact Hown
  iapply Hk

/-- The transfers to column mates 0 and 1. -/
theorem wp_part10 (c : Dev nD) (f3 : SBuf F) (f4 : SBuf F) (v3 v20 v298 w : BitVec 32) {Q} :
    iprop(recs m K ∗ levAts L lv ∗ owing c (recvOwed c [colJ 0, colJ 1, colJ 2]) ∗ colSrc m 0 c ∗ slotPts (mate (colJ 0) c) (colJ 0) f3 ∗ dutyTok ER (sendCell (colJ 0) c) 0 (colJ 0) ∗ dutyTok ER (recvCell (colJ 0) (mate (colJ 0) c)) 0 (colJ 0) ∗ colSrc m 1 c ∗ slotPts (mate (colJ 1) c) (colJ 1) f4 ∗ dutyTok ER (sendCell (colJ 1) c) 0 (colJ 1) ∗ dutyTok ER (recvCell (colJ 1) (mate (colJ 1) c)) 0 (colJ 1))
      ⊢ iprop(((owing c (recvOwed c [colJ 2]) ∗ cred (tallyAt (sendCell (colJ 0) c) () (credit (colJ 0))) ∗ cred (tallyAt (sendCell (colJ 1) c) () (credit (colJ 1)))) -∗ ∀ v311 : BitVec 32, ∀ v325 : BitVec 32, Q ⟨v311, v325⟩)
        -∗ WP c (prog10 (F := F) c v3 v20 v298 w) Q) := by
  unfold prog10
  simp only [k0_part10_eq_skeleton]; unfold k0_part10_skel
  simp only [Prog.lift, Prog.bind_op, Prog.bind_ret, Prog.pure_eq_ret, Prog.bind_assoc]
  iintro ⟨#HR, #Hlev, HO, Hp3, Hs3, Hts3, Htr3, Hp4, Hs4, Hts4, Htr4⟩ Hk
  iapply (wp_send_col m K 0 c _ (dev10_eq c) (off3_eq c 0) rfl rfl rfl (recvOwed c [colJ 1, colJ 2]) f3) $$ [HO Hp3 Hs3 Hts3 Htr3]
  · isplitr; · iexact HR
    isplitl [HO]; · iexact HO
    isplitl [Hp3]; · iexact Hp3
    isplitl [Hs3]; · iexact Hs3
    isplitl [Hts3] <;> iassumption
  iintro ⟨Hc3, HO⟩
  iapply (wp_send_col m K 1 c _ (dev11_eq c) (off3_eq c 1) rfl rfl rfl (recvOwed c [colJ 2]) f4) $$ [HO Hp4 Hs4 Hts4 Htr4]
  · isplitr; · iexact HR
    isplitl [HO]; · iexact HO
    isplitl [Hp4]; · iexact Hp4
    isplitl [Hs4]; · iexact Hs4
    isplitl [Hts4] <;> iassumption
  iintro ⟨Hc4, HO⟩
  iapply WP_ret
  ihave Hk := Hk $$ [HO Hc3 Hc4]
  · isplitl [HO]; · iexact HO
    isplitl [Hc3]; · iexact Hc3
    iexact Hc4
  iapply Hk

/-- The transfer to column mate 2, and the waits for the exchange with column mates 0 and 1. -/
theorem wp_part11 (c : Dev nD) (f5 : SBuf F) (v297 v311 : BitVec 32) {Q} :
    iprop(recs m K ∗ levAts L lv ∗ owing c (recvOwed c [colJ 2]) ∗ colSrc m 2 c ∗ slotPts (mate (colJ 2) c) (colJ 2) f5 ∗ dutyTok ER (sendCell (colJ 2) c) 0 (colJ 2) ∗ dutyTok ER (recvCell (colJ 2) (mate (colJ 2) c)) 0 (colJ 2) ∗ cred (tallyAt (sendCell (colJ 0) c) () (credit (colJ 0))) ∗ atPos ER (sendCell (colJ 0) c) 0 ∅ 0 ∗ cred (tallyAt (recvCell (colJ 0) c) () (credit (colJ 0))) ∗ atPos ER (recvCell (colJ 0) c) 0 ∅ 0 ∗ cred (tallyAt (sendCell (colJ 1) c) () (credit (colJ 1))) ∗ atPos ER (sendCell (colJ 1) c) 0 ∅ 0 ∗ cred (tallyAt (recvCell (colJ 1) c) () (credit (colJ 1))) ∗ atPos ER (recvCell (colJ 1) c) 0 ∅ 0)
      ⊢ iprop(((owing c (recvOwed c []) ∗ cred (tallyAt (sendCell (colJ 2) c) () (credit (colJ 2))) ∗ atPos ER (sendCell (colJ 0) c) 1 ∅ 0 ∗ src m (colJ 0) c ∗ atPos ER (recvCell (colJ 0) c) 1 ∅ 0 ∗ slotPts c (colJ 0) (landed m c) ∗ atPos ER (sendCell (colJ 1) c) 1 ∅ 0 ∗ src m (colJ 1) c ∗ atPos ER (recvCell (colJ 1) c) 1 ∅ 0 ∗ slotPts c (colJ 1) (landed m c)) -∗ Q ⟨⟩)
        -∗ WP c (prog11 (F := F) c v297 v311) Q) := by
  unfold prog11
  simp only [k0_part11_eq_skeleton]; unfold k0_part11_skel
  simp only [Prog.lift, Prog.bind_op, Prog.bind_ret, Prog.pure_eq_ret, Prog.bind_assoc]
  iintro ⟨#HR, #Hlev, HO, Hp5, Hs5, Hts5, Htr5, Hc3, Has3, Hd3, Har3, Hc4, Has4, Hd4, Har4⟩ Hk
  iapply (wp_send_col m K 2 c _ (dev12_eq c) (off3_eq c 2) rfl rfl rfl (recvOwed c []) f5) $$ [HO Hp5 Hs5 Hts5 Htr5]
  · isplitr; · iexact HR
    isplitl [HO]; · iexact HO
    isplitl [Hp5]; · iexact Hp5
    isplitl [Hs5]; · iexact Hs5
    isplitl [Hts5] <;> iassumption
  iintro ⟨Hc5, HO⟩
  iapply (wp_wait_send m K (colJ 0) c [] rfl (wpE_waitDma2_eq 𝒱₀ (c : Thread nD τ) none Set.univ) (by rw [credit_col]; rfl)) $$ [Hc3 HO Has3]
  · isplitr; · iexact HR
    isplitr; · iexact Hlev
    isplitl [Hc3]; · iexact Hc3
    isplitl [HO] <;> iassumption
  iintro ⟨HO, Has3, Hp3⟩
  iapply (wp_wait_recv m K (colJ 0) c [] (by decide) rfl (wpE_waitDma2_eq 𝒱₀ (c : Thread nD τ) none Set.univ) (by rw [credit_col]; rfl)) $$ [Hd3 HO Har3]
  · isplitr; · iexact HR
    isplitr; · iexact Hlev
    isplitl [Hd3]; · iexact Hd3
    isplitl [HO] <;> iassumption
  iintro ⟨HO, Har3, Hl3⟩
  iapply (wp_wait_send m K (colJ 1) c [] rfl (wpE_waitDma2_eq 𝒱₀ (c : Thread nD τ) none Set.univ) (by rw [credit_col]; rfl)) $$ [Hc4 HO Has4]
  · isplitr; · iexact HR
    isplitr; · iexact Hlev
    isplitl [Hc4]; · iexact Hc4
    isplitl [HO] <;> iassumption
  iintro ⟨HO, Has4, Hp4⟩
  iapply (wp_wait_recv m K (colJ 1) c [] (by decide) rfl (wpE_waitDma2_eq 𝒱₀ (c : Thread nD τ) none Set.univ) (by rw [credit_col]; rfl)) $$ [Hd4 HO Har4]
  · isplitr; · iexact HR
    isplitr; · iexact Hlev
    isplitl [Hd4]; · iexact Hd4
    isplitl [HO] <;> iassumption
  iintro ⟨HO, Har4, Hl4⟩
  iapply WP_ret
  iapply Hk
  isplitl [HO]; · iexact HO
  isplitl [Hc5]; · iexact Hc5
  isplitl [Has3]; · iexact Has3
  isplitl [Hp3]; · iexact Hp3
  isplitl [Har3]; · iexact Har3
  isplitl [Hl3]; · iexact Hl3
  isplitl [Has4]; · iexact Has4
  isplitl [Hp4]; · iexact Hp4
  isplitl [Har4]; · iexact Har4
  iexact Hl4

end Cert.MoE

end
-- ==== Proof.Body.lean ====
/-
The kernel body of one device from entry to exit: the proof data of the one grid point, and the body's
parts put in sequence between them.
-/
module

public import proofs.«01_k».proof.Proof.Exchange

@[expose] public section

set_option maxRecDepth 16384

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (ρ : Dev nD → PrngReg)

/-! ## What a device holds at entry and at exit -/

/-- The duty tokens device `c` pays with toward mate `j`: the mate's barrier, its own departure, the mate's arrival. -/
def payTok (c : Dev nD) (j : Fin 6) : sProp 𝕄 :=
  iprop(dutyTok ER (barCell (mate j c)) 0 j ∗ dutyTok ER (sendCell j c) 0 j ∗ dutyTok ER (recvCell j (mate j c)) 0 j)

/-- The protocol's state at entry: the shared records, the device's positions, its tokens. -/
def ghost (c : Dev nD) : sProp 𝕄 :=
  iprop(recs m K ∗ (bigSep Finset.univ fun k : CI => atPos ER (kcell (c, k)) 0 ∅ 0) ∗ bigSep Finset.univ fun j : Fin 6 => payTok c j)

/-- What the launch hands device `c`. -/
def start (c : Dev nD) : sProp 𝕄 :=
  iprop((∃ K, ghost m K c) ∗ cred (tallyAt (barCell c) () 6)
    ∗ (bigSep Finset.univ fun j : Fin 6 => cred (tallyAt (recvCell j c) () (credit j))) ∗ levAts L lv)

/-- Before the point: that, and both scratch buffers at any contents. -/
def Φ₀ (c : Dev nD) : sProp 𝕄 :=
  iprop(start m c ∗ (∃ f, bufP c cc0_scratch0 f) ∗ ∃ f, bufP c cc0_scratch1 f)

/-- After it: the scratch buffers, and every counter of the device at zero. -/
def Φ₁ (c : Dev nD) : sProp 𝕄 :=
  iprop(bufP c cc0_scratch0 (part1 m c) ∗ bufP c cc0_scratch1 (landed m c) ∗ bigSep Finset.univ fun k : CI => semVal (kcell (c, k)) 0)

/-- The proof data of the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m c
    | ⟨1, _⟩ => stgG m c
    | ⟨2, _⟩ => stgI m c
    | ⟨3, _⟩ => stgW m c
    | ⟨4, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_0 (c : Dev nD) (d) : (dats m ρ 0 c).before (0 : Fin 5) t0_0 d = stgX m c := by
  unfold Dat.before; rw [if_pos (fetch0_0 t0_0)]; rfl
theorem before_1 (c : Dev nD) (d) : (dats m ρ 0 c).before (1 : Fin 5) t0_0 d = stgG m c := by
  unfold Dat.before; rw [if_pos (fetch0_1 t0_0)]; rfl
theorem before_2 (c : Dev nD) (d) : (dats m ρ 0 c).before (2 : Fin 5) t0_0 d = stgI m c := by
  unfold Dat.before; rw [if_pos (fetch0_2 t0_0)]; rfl
theorem before_3 (c : Dev nD) (d) : (dats m ρ 0 c).before (3 : Fin 5) t0_0 d = stgW m c := by
  unfold Dat.before; rw [if_pos (fetch0_3 t0_0)]; rfl

/-! ## Families over the cells and over the mates -/

omit [FloatOps F] in
theorem over_cells (Φ : CI → sProp 𝕄) : bigSep Finset.univ Φ = iprop(Φ .bar
    ∗ Φ (.send (rowJ 0)) ∗ Φ (.send (rowJ 1)) ∗ Φ (.send (rowJ 2)) ∗ Φ (.send (colJ 0)) ∗ Φ (.send (colJ 1)) ∗ Φ (.send (colJ 2))
    ∗ Φ (.recv (rowJ 0)) ∗ Φ (.recv (rowJ 1)) ∗ Φ (.recv (rowJ 2)) ∗ Φ (.recv (colJ 0)) ∗ Φ (.recv (colJ 1)) ∗ Φ (.recv (colJ 2))) := by
  rw [bigSep_univ_eq_bigSepL [CI.bar, .send (rowJ 0), .send (rowJ 1), .send (rowJ 2), .send (colJ 0), .send (colJ 1), .send (colJ 2),
    .recv (rowJ 0), .recv (rowJ 1), .recv (rowJ 2), .recv (colJ 0), .recv (colJ 1), .recv (colJ 2)] (by decide) (by decide) Φ]
  simp only [bigSepL_cons_cons, bigSepL_singleton]
  rfl

omit [FloatOps F] in
theorem over_mates (Φ : Fin 6 → sProp 𝕄) : bigSep Finset.univ Φ
    = iprop(Φ (rowJ 0) ∗ Φ (rowJ 1) ∗ Φ (rowJ 2) ∗ Φ (colJ 0) ∗ Φ (colJ 1) ∗ Φ (colJ 2)) :=
  bigSep_univ_eq_bigSepL [rowJ 0, rowJ 1, rowJ 2, colJ 0, colJ 1, colJ 2] (by decide) (by decide) Φ

/-- Before any chunk is stored, any contents do. -/
theorem filled_start (c : Dev nD) (f : PBuf F) : bufP c cc0_scratch0 f ⊢ filledP m c 0 := by
  unfold filledP
  iintro H
  iexists f
  isplitr; · ipureintro; exact filled_zero m c f
  iexact H

/-- The load of the own rows of the second exchange. -/
theorem wp_load_small (c : Dev nD) (off : Fin 2 → ℕ) (ho : off = ![256 * (qOf c).val + 64 * (zOf c).val, 0])
    {inb : ∀ a, off a + (![64, 512] : Fin 2 → ℕ) a ≤ S1024x512.size a}
    {hl : (Memref.whole cc0_scratch0 : Memref sig .tc .vmem S1024x512 .bf16).view.LoadsAt (Rect.unit (s := S1024x512) off ![64, 512] inb).toLoadRect}
    {f : PBuf F} {α : Type} {Q : α → sProp 𝕄} {k' : ((⟨2, ![64, 512]⟩ : Shape).Idx → Elt F .bf16) → Prog (TpuEff nD τ sig (Elt F) Λ₀ .tc) α} :
    ownSmall c f
      ⊢ iprop((ownSmall c f -∗ WP c (k' (small f (qOf c) (zOf c))) Q)
        -∗ WP c (.op (.load (Memref.whole cc0_scratch0 : Memref sig .tc .vmem S1024x512 .bf16) (Rect.unit (s := S1024x512) off ![64, 512] inb).toLoadRect hl) k') Q) :=
  wp_load_rows c 64 (256 * (qOf c).val + 64 * (zOf c).val) off ho (small_inb _ _)

/-- The stored buffer is the own rows and what goes to the row mates; -/
theorem split_part (c : Dev nD) : bufP c cc0_scratch0 (part m c) = iprop(ownBig c (part m c) ∗ rowSrc m 0 c ∗ rowSrc m 1 c ∗ rowSrc m 2 c) :=
  split_big c (part m c)

/-- the own rows after the first exchange the own rows of the second and what goes to the column mates. -/
theorem split_part1 (c : Dev nD) : ownBig c (part1 m c) = iprop(ownSmall c (part1 m c) ∗ colSrc m 0 c ∗ colSrc m 1 c ∗ colSrc m 2 c) :=
  split_small c (part1 m c)

/-- The pieces of the second exchange together are the device's own rows; -/
theorem own_back (c : Dev nD) :
    iprop(ownSmall c (part1 m c) ∗ src m (colJ 0) c ∗ src m (colJ 1) c ∗ src m (colJ 2) c) ⊢ ownBig c (part1 m c) := by
  rw [split_small, src_col, src_col, src_col]
  exact BI.Entails.refl _

/-- the own rows with the pieces of the first exchange the whole buffer. -/
theorem all_back (c : Dev nD) :
    iprop(ownBig c (part1 m c) ∗ src m (rowJ 0) c ∗ src m (rowJ 1) c ∗ src m (rowJ 2) c) ⊢ bufP c cc0_scratch0 (part1 m c) := by
  rw [split_big, src_row, src_row, src_row, mateBig_part1, mateBig_part1, mateBig_part1]
  exact BI.Entails.refl _

omit [FloatOps F] in
/-- What the last store leaves in the result's buffer. -/
theorem stored_out (c : Dev nD) (g w : cc0_stg4_0.ty.Contents (Elt F)) :
    ((((Memref.whole cc0_stg4_0 : Memref sig .tc .vmem S64x512 .f32).access (Rect.unit (s := S64x512) ![0, 0] S64x512.size inb_S64x512_S64x512_0_0)).loc (c : Thread nD τ))
        ↦{fullShare} View.write (Elt F) ((Memref.whole cc0_stg4_0 : Memref sig .tc .vmem S64x512 .f32).access (Rect.unit (s := S64x512) ![0, 0] S64x512.size inb_S64x512_S64x512_0_0)) g
          w Finset.univ : sProp 𝕄)
      ⊢ bufP c cc0_stg4_0 w :=
  Entails.of_eq (congrArg (bufP (F := F) c cc0_stg4_0) (Memref.write_access_unit_zero_univ (Elt F) cc0_stg4_0 zero2 inb_S64x512_S64x512_0_0 g w))

/-! ## The body -/

theorem WP_bind (c : Dev nD) {α β : Type} (p : Prog (TpuEff nD τ sig (Elt F) Λ₀ .tc) α) (k : α → Prog (TpuEff nD τ sig (Elt F) Λ₀ .tc) β) (Q) :
    WP c (p >>= k) Q = WP c p (fun a => WP c (k a) Q) := wp_bind _ _ _ p k Q

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(((ghost m K c ∗ cred (tallyAt (barCell c) () 6)
      ∗ (bigSep Finset.univ fun j : Fin 6 => cred (tallyAt (recvCell j c) () (credit j))) ∗ levAts L lv)
      ∗ (∃ f, bufP c cc0_scratch0 f) ∗ ∃ f, bufP c cc0_scratch1 f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m c ∗ (dats m ρ 0 c).owesAt () t0_0.succ ∗ stg c cc0_stg0_0 (stgX m c) ∗ stg c cc0_stg1_0 (stgG m c)
    ∗ stg c cc0_stg2_0 (stgI m c) ∗ stg c cc0_stg3_0 (stgW m c) ∗ stg c cc0_stg4_0 (outF m c))

set_option maxHeartbeats 1600000 in
/-- The body of device `c`, part after part, from its entry to its exit. -/
theorem sound_body (c : Dev nD) (Kt : PUnit → sProp 𝕄) :
    iprop(bodyPre m K ρ c ∗ (bodyPost m ρ c -∗ Kt ⟨⟩))
      ⊢ WP c (cc0_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3) Kt := by
  simp only [cc0_body_eq_skeleton]; unfold cc0_body_skel
  unfold bodyPre ghost
  iintro ⟨⟨⟨⟨⟨#HR, Hpos, Htok⟩, HcB, Hcr, #Hlev⟩, ⟨%f0, Hscr0⟩, ⟨%f1, Hscr1⟩⟩, Ho, ⟨%d0, %g0, %hg0, HX⟩, ⟨%d1, %g1, %hg1, HG⟩, ⟨%d2, %g2, %hg2, HI⟩, ⟨%d3, %g3, %hg3, HW⟩, ⟨%d4, %g4, %hg4, Hout⟩⟩, Hk⟩
  have hx0 : g0 = stgX m c := hg0.trans (before_0 m ρ c d0)
  subst hx0
  have hx1 : g1 = stgG m c := hg1.trans (before_1 m ρ c d1)
  subst hx1
  have hx2 : g2 = stgI m c := hg2.trans (before_2 m ρ c d2)
  subst hx2
  have hx3 : g3 = stgW m c := hg3.trans (before_3 m ρ c d3)
  subst hx3
  unfold Dat.owesAt Pipeline.owesWithin
  icases Ho with ⟨%W, %hW, HO⟩
  rw [show (dats m ρ 0 c).owed t0_0.castSucc = barOwed c [0, 3, 1, 4, 2, 5] from rfl]
  ihave HO := (show owes _ _ _ ⊢ owing c (barOwed c [0, 3, 1, 4, 2, 5]) from by unfold owing; iintro H; iexists W; iexact H) $$ HO
  ihave Hpos := (Entails.of_eq (over_cells (fun k : CI => (atPos ER (kcell (c, k)) 0 ∅ 0 : sProp 𝕄)))) $$ Hpos
  icases Hpos with ⟨HatB, Has0, Has1, Has2, Has3, Has4, Has5, Har0, Har1, Har2, Har3, Har4, Har5⟩
  ihave Htok := (Entails.of_eq (over_mates (fun j : Fin 6 => payTok (F := F) c j))) $$ Htok
  unfold payTok
  icases Htok with ⟨⟨Htb0, Hts0, Htr0⟩, ⟨Htb1, Hts1, Htr1⟩, ⟨Htb2, Hts2, Htr2⟩, ⟨Htb3, Hts3, Htr3⟩, ⟨Htb4, Hts4, Htr4⟩, ⟨Htb5, Hts5, Htr5⟩⟩
  ihave Hcr := (Entails.of_eq (over_mates (fun j : Fin 6 => (cred (tallyAt (recvCell j c) () (credit j)) : sProp 𝕄)))) $$ Hcr
  icases Hcr with ⟨Hd0, Hd1, Hd2, Hd3, Hd4, Hd5⟩
  ihave Hslots := (Entails.of_eq (split_slots c f1)) $$ Hscr1
  icases Hslots with ⟨Ho0, Ho1, Ho2, Ho3, Ho4, Ho5⟩
  rw [WP_bind]
  iapply (wp_part1 m K c f1) $$ [HO Htb0 Ho0 Htb3 Ho3]
  · isplitr; · iexact HR
    isplitl [HO]; · iexact HO
    isplitl [Htb0]; · iexact Htb0
    isplitl [Ho0]; · iexact Ho0
    isplitl [Htb3]; · iexact Htb3
    iexact Ho3
  iintro HO %v3 %v20 %v34
  try dsimp only
  rw [WP_bind]
  iapply (wp_part2 m K c f1 (stgX m c) (stgG m c) v3 v20 v34) $$ [HO Htb1 Ho1 Htb4 Ho4 Htb2 Ho2 Htb5 Ho5 HX HG]
  · isplitr; · iexact HR
    isplitl [HO]; · iexact HO
    isplitl [Htb1]; · iexact Htb1
    isplitl [Ho1]; · iexact Ho1
    isplitl [Htb4]; · iexact Htb4
    isplitl [Ho4]; · iexact Ho4
    isplitl [Htb2]; · iexact Htb2
    isplitl [Ho2]; · iexact Ho2
    isplitl [Htb5]; · iexact Htb5
    isplitl [Ho5]; · iexact Ho5
    isplitl [HX]; · iexact HX
    iexact HG
  iintro ⟨HO, HX, HG⟩
  try dsimp only
  rw [WP_bind]
  iapply (wp_part3 c (devWord c) (k0_pay2 (stgX m c)) (k0_pay3 (stgX m c) (stgG m c)) (stgI m c) (stgW m c)) $$ [HI HW]
  · isplitl [HI]; · iexact HI
    iexact HW
  iintro ⟨HI, HW⟩
  try dsimp only
  rw [WP_bind]
  iapply (wp_part4 c (devWord c) _ _ _ _ _ (stgW m c)) $$ HW
  iintro HW
  try dsimp only
  rw [WP_bind]
  ihave Hf := (filled_start m c f0) $$ Hscr0
  iapply (show filledP m c 0 ⊢ _ from wp_part5 m c) $$ Hf
  iintro Hf
  try dsimp only
  rw [WP_bind]
  iapply (wp_part6 m K c v3) $$ [Hf HcB HO HatB]
  · isplitr; · iexact HR
    isplitr; · iexact Hlev
    isplitl [Hf]; · iexact Hf
    isplitl [HcB]; · iexact HcB
    isplitl [HO]; · iexact HO
    iexact HatB
  iintro ⟨Hscr0, HO, HatB, Hmates⟩ %v212
  ihave Hmates := (Entails.of_eq (over_mates (fun d : Fin 6 => (iprop(∃ f, slotPts (mate d c) d f) : sProp 𝕄)))) $$ Hmates
  icases Hmates with ⟨⟨%s0, Hs0⟩, ⟨%s1, Hs1⟩, ⟨%s2, Hs2⟩, ⟨%s3, Hs3⟩, ⟨%s4, Hs4⟩, ⟨%s5, Hs5⟩⟩
  ihave Hb := (Entails.of_eq (split_part m c)) $$ Hscr0
  icases Hb with ⟨Hown, Hp0, Hp1, Hp2⟩
  try dsimp only
  rw [WP_bind]
  iapply (wp_part7 m K c s0 s1 v3 v20 v212) $$ [HO Hp0 Hs0 Hts0 Htr0 Hp1 Hs1 Hts1 Htr1]
  · isplitr; · iexact HR
    isplitr; · iexact Hlev
    isplitl [HO]; · iexact HO
    isplitl [Hp0]; · iexact Hp0
    isplitl [Hs0]; · iexact Hs0
    isplitl [Hts0]; · iexact Hts0
    isplitl [Htr0]; · iexact Htr0
    isplitl [Hp1]; · iexact Hp1
    isplitl [Hs1]; · iexact Hs1
    isplitl [Hts1]; · iexact Hts1
    iexact Htr1
  iintro ⟨HO, Hc0, Hc1⟩ %v215 %v227 %v239
  try dsimp only
  rw [WP_bind]
  iapply (wp_part8 m K c s2 v215 v227) $$ [HO Hp2 Hs2 Hts2 Htr2 Hc0 Has0 Hd0 Har0 Hc1 Has1 Hd1 Har1]
  · isplitr; · iexact HR
    isplitr; · iexact Hlev
    isplitl [HO]; · iexact HO
    isplitl [Hp2]; · iexact Hp2
    isplitl [Hs2]; · iexact Hs2
    isplitl [Hts2]; · iexact Hts2
    isplitl [Htr2]; · iexact Htr2
    isplitl [Hc0]; · iexact Hc0
    isplitl [Has0]; · iexact Has0
    isplitl [Hd0]; · iexact Hd0
    isplitl [Har0]; · iexact Har0
    isplitl [Hc1]; · iexact Hc1
    isplitl [Has1]; · iexact Has1
    isplitl [Hd1]; · iexact Hd1
    iexact Har1
  iintro ⟨HO, Hc2, Has0, Hp0, Har0, Hl0, Has1, Hp1, Har1, Hl1⟩
  try dsimp only
  rw [WP_bind]
  iapply (wp_part9 m K c  v3 v20 v239) $$ [HO Hc2 Has2 Hd2 Har2 Hl0 Hl1 Hown]
  · isplitr; · iexact HR
    isplitr; · iexact Hlev
    isplitl [HO]; · iexact HO
    isplitl [Hc2]; · iexact Hc2
    isplitl [Has2]; · iexact Has2
    isplitl [Hd2]; · iexact Hd2
    isplitl [Har2]; · iexact Har2
    isplitl [Hl0]; · iexact Hl0
    isplitl [Hl1]; · iexact Hl1
    iexact Hown
  iintro ⟨HO, Has2, Hp2, Har2, Hl0, Hl1, Hl2, Hown⟩ %v297 %v298 %w
  ihave Hb := (Entails.of_eq (split_part1 m c)) $$ Hown
  icases Hb with ⟨Hown, Hp3, Hp4, Hp5⟩
  try dsimp only
  rw [WP_bind]
  iapply (wp_part10 m K c s3 s4 v3 v20 v298 w) $$ [HO Hp3 Hs3 Hts3 Htr3 Hp4 Hs4 Hts4 Htr4]
  · isplitr; · iexact HR
    isplitr; · iexact Hlev
    isplitl [HO]; · iexact HO
    isplitl [Hp3]; · iexact Hp3
    isplitl [Hs3]; · iexact Hs3
    isplitl [Hts3]; · iexact Hts3
    isplitl [Htr3]; · iexact Htr3
    isplitl [Hp4]; · iexact Hp4
    isplitl [Hs4]; · iexact Hs4
    isplitl [Hts4]; · iexact Hts4
    iexact Htr4
  iintro ⟨HO, Hc3, Hc4⟩ %v311 %v325
  try dsimp only
  rw [WP_bind]
  iapply (wp_part11 m K c s5 v297 v311) $$ [HO Hp5 Hs5 Hts5 Htr5 Hc3 Has3 Hd3 Har3 Hc4 Has4 Hd4 Har4]
  · isplitr; · iexact HR
    isplitr; · iexact Hlev
    isplitl [HO]; · iexact HO
    isplitl [Hp5]; · iexact Hp5
    isplitl [Hs5]; · iexact Hs5
    isplitl [Hts5]; · iexact Hts5
    isplitl [Htr5]; · iexact Htr5
    isplitl [Hc3]; · iexact Hc3
    isplitl [Has3]; · iexact Has3
    isplitl [Hd3]; · iexact Hd3
    isplitl [Har3]; · iexact Har3
    isplitl [Hc4]; · iexact Hc4
    isplitl [Has4]; · iexact Has4
    isplitl [Hd4]; · iexact Hd4
    iexact Har4
  iintro ⟨HO, Hc5, Has3, Hp3, Har3, Hl3, Has4, Hp4, Har4, Hl4⟩
  simp only [Prog.lift, Prog.bind_op, Prog.bind_ret, Prog.pure_eq_ret, Prog.bind_assoc]
  iapply (wp_wait_send m K (colJ 2) c [] rfl (wpE_waitDma2_eq 𝒱₀ (c : Thread nD τ) none Set.univ) (by rw [credit_col]; rfl)) $$ [Hc5 HO Has5]
  · isplitr; · iexact HR
    isplitr; · iexact Hlev
    isplitl [Hc5]; · iexact Hc5
    isplitl [HO] <;> iassumption
  iintro ⟨HO, Has5, Hp5⟩
  iapply (wp_wait_recv m K (colJ 2) c [] (by decide) rfl (wpE_waitDma2_eq 𝒱₀ (c : Thread nD τ) none Set.univ) (by rw [credit_col]; rfl)) $$ [Hd5 HO Har5]
  · isplitr; · iexact HR
    isplitr; · iexact Hlev
    isplitl [Hd5]; · iexact Hd5
    isplitl [HO] <;> iassumption
  iintro ⟨HO, Har5, Hl5⟩
  iapply (wp_load_small c _ (off4_eq c)) $$ Hown; iintro Hown
  iapply (wp_load_slot_col m c 0 _ rfl) $$ Hl3; iintro Hl3
  iapply (wp_load_slot_col m c 1 _ rfl) $$ Hl4; iintro Hl4
  iapply (wp_load_slot_col m c 2 _ rfl) $$ Hl5; iintro Hl5
  iapply (wp_load 𝒱₀ (c : Thread nD τ) none Set.univ (m := (Memref.whole cc0_stg4_0 : Memref sig .tc .vmem S64x512 .f32)) (Finset.subset_univ _)) $$ Hout; iintro Hout
  iapply (wp_store 𝒱₀ (c : Thread nD τ) none Set.univ (m := (Memref.whole cc0_stg4_0 : Memref sig .tc .vmem S64x512 .f32))
    (r := Rect.unit (s := S64x512) ![0, 0] S64x512.size inb_S64x512_S64x512_0_0) (Mk := Finset.univ) (Finset.subset_univ _)) $$ Hout; iintro Hout
  ihave Hout := (stored_out (F := F) c g4 _) $$ Hout
  imod (close_all m K c) $$ [HatB Has0 Has1 Has2 Has3 Has4 Has5 Har0 Har1 Har2 Har3 Har4 Har5] with Hz
  · isplitr; · iexact HR
    iapply (Entails.of_eq (over_cells (fun k : CI => (atPos ER (kcell (c, k)) 1 ∅ 0 : sProp 𝕄))).symm)
    isplitl [HatB]; · iexact HatB
    isplitl [Has0]; · iexact Has0
    isplitl [Has1]; · iexact Has1
    isplitl [Has2]; · iexact Has2
    isplitl [Has3]; · iexact Has3
    isplitl [Has4]; · iexact Has4
    isplitl [Has5]; · iexact Has5
    isplitl [Har0]; · iexact Har0
    isplitl [Har1]; · iexact Har1
    isplitl [Har2]; · iexact Har2
    isplitl [Har3]; · iexact Har3
    isplitl [Har4]; · iexact Har4
    iexact Har5
  ihave Hown := (own_back m c) $$ [Hown Hp3 Hp4 Hp5]
  · isplitl [Hown]; · iexact Hown
    isplitl [Hp3]; · iexact Hp3
    isplitl [Hp4] <;> iassumption
  ihave Hscr0 := (all_back m c) $$ [Hown Hp0 Hp1 Hp2]
  · isplitl [Hown]; · iexact Hown
    isplitl [Hp0]; · iexact Hp0
    isplitl [Hp1] <;> iassumption
  ihave Hscr1 := (Entails.of_eq (split_slots c (landed m c)).symm) $$ [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4] <;> iassumption
  iapply WP_ret
  iapply Hk
  unfold bodyPost Φ₁ Dat.owesAt Pipeline.owesWithin
  rw [show (dats m ρ 0 c).owed t0_0.succ = 0 from rfl]
  isplitl [Hscr0 Hscr1 Hz]
  · isplitl [Hscr0]; · iexact Hscr0
    isplitl [Hscr1] <;> iassumption
  isplitl [HO]
  · unfold owing
    icases HO with ⟨%W', HO⟩
    iexists W'
    isplitr; · ipureintro; exact fun _ _ => Or.inl trivial
    iexact HO
  isplitl [HX]
  · iexists _; isplitr; · (ipureintro; rfl)
    iexact HX
  isplitl [HG]
  · iexists _; isplitr; · (ipureintro; rfl)
    iexact HG
  isplitl [HI]
  · iexists _; isplitr; · (ipureintro; rfl)
    iexact HI
  isplitl [HW]
  · iexists _; isplitr; · (ipureintro; rfl)
    iexact HW
  iexists _; isplitr; · (ipureintro; rfl)
  iexact Hout

def bodyPre' (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- The pipeline's obligation for the body. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ WP c (cc0_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) cc0_scratch2 cc0_scratch3) (fun _ => bodyPost m ρ c)
  unfold bodyPre' Φ₀ start
  iintro ⟨⟨⟨⟨%K, Hg⟩, Hrest⟩, Hscr⟩, Ho⟩
  iapply (sound_body m K ρ c fun _ => bodyPost m ρ c)
  unfold bodyPre
  isplitr []
  · isplitl [Hg Hrest Hscr]
    · isplitl [Hg Hrest]
      · isplitl [Hg] <;> iassumption
      iexact Hscr
    iexact Ho
  · iintro H; iexact H

end Cert.MoE

end
-- ==== Proof.Launch.lean ====
/-
The launch of the sixteen devices together: the cells made, the duty tokens dealt to the devices that pay with them,
the credits of the waits, and the run of the program.
-/
module

public import proofs.«01_k».proof.Proof.Body
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Quiescent
public import Idealize.ShloMosaic.Lib.Quiescent
public import Idealize.ShloMosaic.Lib.Pipeline.CollectiveSegs

@[expose] public section

set_option maxRecDepth 16384

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (ρ : Dev nD → PrngReg)

/-! ## The cells and the tokens -/

/-- The kernel's own semaphores: departures and arrivals. -/
abbrev osem : Fin 6 ⊕ Fin 6 → SemLoc sig := fun k => csem (.inr k)

theorem ownSemFacts : Pipeline.OwnSemFacts cfg0.spec osem := by decide

theorem share_eq (c : Dev nD) (w : Fin cfg0.W) : (dats m ρ 0 c).share w = fullShare := by unfold Dat.share; split <;> rfl

def meshCells : Finset (GSem nD τ sig) := Finset.univ.map ⟨kcell, kcell_injective⟩

/-- The duties of a device's own cells: of its barrier one per mate, of each departure and each arrival one. -/
abbrev tokOf (x : Dev nD × Fin 6 × Fin 3) : GSem nD τ sig × ℕ × Fin 6 :=
  (match x.2.2 with | 0 => barCell x.1 | 1 => sendCell x.2.1 x.1 | 2 => recvCell x.2.1 x.1, 0, x.2.1)
theorem tokOf_injective : Function.Injective tokOf := by
  rintro ⟨c, j, k⟩ ⟨c', j', k'⟩ h
  have hj : j = j' := congrArg (fun y : GSem nD τ sig × ℕ × Fin 6 => y.2.2) h
  subst hj
  have hg := congrArg (fun y : GSem nD τ sig × ℕ × Fin 6 => y.1) h
  fin_cases k <;> fin_cases k' <;>
    · have hk := kcell_injective hg
      simp_all [Prod.ext_iff]
def meshToks : Finset (GSem nD τ sig × ℕ × Fin 6) := Finset.univ.map ⟨tokOf, tokOf_injective⟩

def u₀ : UU :=
  (initOf (Pipeline.cells cfgs cellOf_inj) (Pipeline.launchToks cfgs cellOf_inj), initOf meshCells meshToks)

/-- The duty tokens of device `c`'s own cells. -/
def toks (c : Dev nD) : sProp 𝕄 :=
  bigSep Finset.univ fun j : Fin 6 => iprop(dutyTok ER (barCell c) 0 j ∗ dutyTok ER (sendCell j c) 0 j ∗ dutyTok ER (recvCell j c) 0 j)

def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks c)

def G' (c : Dev nD) : sProp 𝕄 := iprop(∃ K, ghost m K c)

omit [FloatOps F] in
theorem over_three (Φ : Fin 3 → sProp 𝕄) : bigSep Finset.univ Φ = iprop(Φ 0 ∗ Φ 1 ∗ Φ 2) :=
  bigSep_univ_eq_bigSepL [0, 1, 2] (by decide) (by decide) Φ

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CI => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by
      unfold toks; rw [bigSep_univ_prod]
      exact bigSep_congr fun j _ => by rw [over_three]; rfl
  iintro HX
  imod (Rounds.fund ER (rd m) meshCells meshToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Its counters and the kernel's own are those of the cells. -/
theorem sems0_eq (c : Dev nD) :
    (bigSep Finset.univ fun k : CI => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, Finset.univ_unique, bigSep_singleton]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem by_mate (Φ : Dev nD → Fin 6 → sProp 𝕄) :
    (bigSep Finset.univ fun c => bigSep Finset.univ fun j => Φ c j) = bigSep Finset.univ fun j => bigSep Finset.univ fun c => Φ c j := by
  rw [← bigSep_univ_prod (fun x : Dev nD × Fin 6 => Φ x.1 x.2), bigSep_univ_equiv (Equiv.prodComm (Fin 6) (Dev nD)), bigSep_univ_prod]
  rfl

omit [FloatOps F] in
/-- The tokens dealt: mate `j`'s barrier and arrival tokens of name `j` go to the device that pays with them. -/
theorem toks_around : (bigSep Finset.univ fun c : Dev nD => (toks c : sProp 𝕄))
    = bigSep Finset.univ fun c : Dev nD => bigSep Finset.univ fun j : Fin 6 => payTok c j := by
  unfold toks
  rw [by_mate, by_mate fun (c : Dev nD) (j : Fin 6) => (payTok c j : sProp 𝕄)]
  refine bigSep_congr fun j _ => ?_
  unfold payTok
  rw [bigSep_sep', bigSep_sep', bigSep_sep', bigSep_sep',
    bigSep_univ_equiv (mateEquiv j) (fun c : Dev nD => (dutyTok ER (barCell c) 0 j : sProp 𝕄)),
    bigSep_univ_equiv (mateEquiv j) (fun c : Dev nD => (dutyTok ER (recvCell j c) 0 j : sProp 𝕄))]
  rfl

/-- What stays with device `c`: its positions, and the tokens of the duties it pays. -/
def linear (c : Dev nD) : sProp 𝕄 :=
  iprop((bigSep Finset.univ fun k : CI => atPos ER (kcell (c, k)) 0 ∅ 0) ∗ bigSep Finset.univ fun j : Fin 6 => payTok c j)

theorem ghost_intro (K : Dev nD × CI → ℕ) (c : Dev nD) : iprop(recs m K ∗ linear c) ⊢ G' m c := by
  unfold linear G' ghost
  iintro ⟨HR, Hl⟩
  iexists K
  isplitl [HR] <;> iassumption

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, HR⟩, Htk⟩
  ihave HK := (BI.bigSep_exists_pi Finset.univ (fun (ck : Dev nD × CI) (κ : ℕ) => (cellInv ER (rd m) κ (kcell ck) : sProp 𝕄))) $$ HI
  icases HK with ⟨%K, HI⟩
  iapply (bigSep_with_persistent (R := recs m K) fun c _ => ghost_intro m K c)
  isplitl [HI HR]
  · unfold recs; rw [bigSep_sep']
    isplitl [HI] <;> iassumption
  · unfold linear; rw [bigSep_sep']
    isplitl [Hat] <;> iassumption

/-- Every device's semaphores at once become the cells of the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- One unit-bearing device for every device: its mate `j`. -/
theorem sum_mate (j : Fin 6) (c : Dev nD) (n : ℕ) : (∑ d : Dev nD, if c = mate j d then n else 0) = n := by
  rw [Finset.sum_eq_single (mate j c) (fun d _ hd => if_neg fun h => hd (by rw [h, mate_mate])) (fun h => absurd (Finset.mem_univ _) h),
    if_pos (mate_mate j c).symm]

theorem kcell_eq_iff (c d : Dev nD) (k k' : CI) : kcell (c, k) = kcell (d, k') ↔ c = d ∧ k = k' :=
  ⟨fun h => by have := kcell_injective h; exact ⟨congrArg Prod.fst this, congrArg Prod.snd this⟩, fun h => by rw [h.1, h.2]⟩

theorem recvOwed_at (d c : Dev nD) (k : CI) : ∀ l : List (Fin 6),
    recvOwed d l (kcell (c, k)) () = (l.map fun j => if k = .recv j then (if c = mate j d then credit j else 0) else 0).sum
  | [] => rfl
  | j :: l => by
    unfold recvOwed
    rw [Pi.add_apply, Finsupp.add_apply, tallyAt_apply, recvOwed_at d c k l, List.map_cons, List.sum_cons, Nat.add_comm]
    congr 1
    by_cases hk : k = .recv j <;> by_cases hc : c = mate j d <;> simp [csem_injective.eq_iff, hk, hc]

theorem barOwed_at (d c : Dev nD) (k : CI) : ∀ l : List (Fin 6),
    barOwed d l (kcell (c, k)) () = (l.map fun j => if k = .bar then (if c = mate j d then 1 else 0) else 0).sum
      + recvOwed d [0, 1, 2, 3, 4, 5] (kcell (c, k)) ()
  | [] => (Nat.zero_add _).symm
  | j :: l => by
    unfold barOwed
    rw [Pi.add_apply, Finsupp.add_apply, tallyAt_apply, barOwed_at d c k l, List.map_cons, List.sum_cons]
    have : (if kcell (c, k) = barCell (mate j d) ∧ () = () then 1 else 0) = (if k = .bar then (if c = mate j d then 1 else 0) else 0) := by
      by_cases hk : k = .bar <;> by_cases hc : c = mate j d <;> simp [csem_injective.eq_iff, hk, hc]
    rw [this]; omega

/-- What all devices owe the barrier of `c`; -/
theorem sum_bar (c : Dev nD) : (∑ d : Dev nD, O₀ d (barCell c) ()) = 6 := by
  have h (d : Dev nD) : O₀ d (barCell c) () = ∑ j : Fin 6, if c = mate j d then 1 else 0 := by
    unfold O₀
    rw [barOwed_at, recvOwed_at, Fin.sum_univ_six]
    simp
    omega
  rw [Finset.sum_congr rfl fun d _ => h d, Finset.sum_comm, Finset.sum_congr rfl fun j _ => sum_mate j c 1]
  simp

/-- what they owe its arrival cell `j`. -/
theorem sum_recv (c : Dev nD) (j : Fin 6) : (∑ d : Dev nD, O₀ d (recvCell j c) ()) = credit j := by
  have h (d : Dev nD) : O₀ d (recvCell j c) () = if c = mate j d then credit j else 0 := by
    unfold O₀
    rw [barOwed_at, recvOwed_at]
    fin_cases j <;> simp
  rw [Finset.sum_congr rfl fun d _ => h d, sum_mate]

omit [FloatOps F] in
/-- The launch credit of a cell is the sum of what the devices owe it. -/
theorem launch_at (c : Dev nD) (k : CI) (n : ℕ) (h : (∑ d : Dev nD, O₀ d (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, h]

omit [FloatOps F] in
theorem creds (c : Dev nD) :
    (Pipeline.launchCred O₀ c : sProp 𝕄) ⊢ iprop(cred (tallyAt (barCell c) () 6)
      ∗ bigSep Finset.univ fun j : Fin 6 => cred (tallyAt (recvCell j c) () (credit j))) := by
  unfold Pipeline.launchCred
  refine (bigSep_subset (Finset.subset_univ (Finset.univ.map ⟨csem, csem_injective⟩))).trans ?_
  rw [bigSep_map, bigSep_univ_sum, bigSep_univ_sum, Finset.univ_unique, bigSep_singleton]
  show iprop(cred (tallyOn (barCell c) (launchCredit (Pipeline.owing O₀) 0 (barCell c)))
    ∗ (bigSep Finset.univ fun j : Fin 6 => cred (tallyOn (sendCell j c) (launchCredit (Pipeline.owing O₀) 0 (sendCell j c))))
    ∗ (bigSep Finset.univ fun j : Fin 6 => cred (tallyOn (recvCell j c) (launchCredit (Pipeline.owing O₀) 0 (recvCell j c))))) ⊢ _
  rw [launch_at c .bar 6 (sum_bar c), bigSep_congr (s := Finset.univ) fun (j : Fin 6) _ =>
    congrArg (fun t => (cred t : sProp 𝕄)) (launch_at c (.recv j) (credit j) (sum_recv c j))]
  iintro ⟨HB, -, HV⟩
  isplitl [HB] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [sems0_eq]
  iintro ⟨H0, H1, HB, HO⟩
  isplitl [HB]; · iexact HB
  isplitl [HO]; · iexact HO
  isplitl [H0]
  · iexists _; iexact H0
  iexists _; iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m ρ 0 c).arrAt w cfg0.N

/-- For any float values, from any memory with zero counters: every fair execution of the sixteen devices ends, with
    every array as computed and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.MoE

end
-- ==== Proof.Result.lean ====
/-
What a run of the program leaves in a device's argument and result arrays.
-/
module

public import proofs.«01_k».proof.Proof.Launch

@[expose] public section

set_option maxRecDepth 16384

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (ρ : Dev nD → PrngReg)

/-! ## The staged arguments are the argument arrays -/

theorem stgX_eq (c : Dev nD) : stgX m c = m ((c : Thread nD τ).loc main_arg0) := by
  unfold stgX iblk
  exact Memref.read_access_unit_zero (Elt F) main_arg0 (off := fun a => (win0_0.index (0 : Fin 1)) a * main_arg0.ty.shape.size a)
    (funext fun a => by fin_cases a <;> decide) (fun a => by fin_cases a <;> decide) (m ((c : Thread nD τ).loc main_arg0))
theorem stgG_eq (c : Dev nD) : stgG m c = m ((c : Thread nD τ).loc main_arg1) := by
  unfold stgG iblk
  exact Memref.read_access_unit_zero (Elt F) main_arg1 (off := fun a => (win0_1.index (0 : Fin 1)) a * main_arg1.ty.shape.size a)
    (funext fun a => by fin_cases a <;> decide) (fun a => by fin_cases a <;> decide) (m ((c : Thread nD τ).loc main_arg1))
theorem stgI_eq (c : Dev nD) : stgI m c = m ((c : Thread nD τ).loc main_arg2) := by
  unfold stgI iblk
  exact Memref.read_access_unit_zero (Elt F) main_arg2 (off := fun a => (win0_2.index (0 : Fin 1)) a * main_arg2.ty.shape.size a)
    (funext fun a => by fin_cases a <;> decide) (fun a => by fin_cases a <;> decide) (m ((c : Thread nD τ).loc main_arg2))
theorem stgW_eq (c : Dev nD) : stgW m c = m ((c : Thread nD τ).loc main_arg3) := by
  unfold stgW iblk
  exact Memref.read_access_unit_zero (Elt F) main_arg3 (off := fun a => (win0_3.index (0 : Fin 1)) a * main_arg3.ty.shape.size a)
    (funext fun a => by fin_cases a <;> decide) (fun a => by fin_cases a <;> decide) (m ((c : Thread nD τ).loc main_arg3))

/-- The result array's one block is the whole array, and it is what the body left in its buffer. -/
theorem finalA_out (c : Dev nD) : finalA m ρ c (4 : Fin 5) = outF m c := by
  have h : (win0_4.blk (0 : Fin 1)).view.read (Elt F) (finalA m ρ c (4 : Fin 5)) = outF m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (Memref.read_access_unit_zero (Elt F) main_v1 (off := fun a => (win0_4.index (0 : Fin 1)) a * main_v1.ty.shape.size a)
    (funext fun a => by fin_cases a <;> decide) (fun a => by fin_cases a <;> decide) _).symm.trans h

/-- The run read at the arrays: the result as computed, the arguments as they were, every counter at zero. -/
theorem run_arrays : θ_run defs (onTc (τ := τ) (main (F := F))) ⟨m, fun _ => 0, ρ⟩
    (fun r => (∀ c : Dev nD, r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c (4 : Fin 5)).trans (finalA_out m ρ c),
    (h.1 c (0 : Fin 5)).trans (finalA_in m ρ c 0 rfl), (h.1 c (1 : Fin 5)).trans (finalA_in m ρ c 1 rfl),
    (h.1 c (2 : Fin 5)).trans (finalA_in m ρ c 2 rfl), (h.1 c (3 : Fin 5)).trans (finalA_in m ρ c 3 rfl)⟩, h.2⟩) (run_main m ρ)

end Cert.MoE

end
-- ==== Proof.Frames.lean ====
/-
The claims that every program runs, leaves its arguments alone and ends with every counter at zero.
-/
module

public import proofs.«01_k».proof.Defs
public import proofs.«01_k».proof.Proof.Gen.Kernel
public import proofs.«01_k».proof.Proof.Gen.Pre_routed_and_finite_KernelIdeal
public import proofs.«01_k».proof.Proof.Gen.Pre_routed_and_finite_ReferenceIdeal
public import proofs.«01_k».proof.Proof.Gen.ReferenceIdeal.Run
public import proofs.«01_k».proof.Proof.Result

@[expose] public section

set_option maxRecDepth 16384

noncomputable section

namespace Cert.MoE

open Idealize.ShloMosaic Idealize.ShloMosaic.TcCoe Idealize.SL.Sem

/-- The kernel's run, its result left out, for any number type. -/
theorem run_quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_arrays (F := F) m ρ)

/-- The kernel as printed and the kernel read over the extended reals are one text: their bodies, their body tables. -/
theorem body_eq : @Cert.Kernel.cc0_body Bits _ Cert.Kernel.Gen.facts = @Cert.KernelIdeal.cc0_body Bits _ Cert.KernelIdeal.Gen.facts := by
  unfold Cert.Kernel.cc0_body Cert.KernelIdeal.cc0_body
  rfl

theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  rw [body_eq]
  refine congrArg (Defs.onTc (nD := Cert.Kernel.nD) (τ := Cert.Kernel.τ) (sig := Cert.Kernel.sig) (Λ := Cert.Kernel.Λ₀)) (funext fun ℓ => funext fun a => ?_)
  match ℓ, a with
  | 0, (t, s) => rfl

theorem defs_eq : @Cert.Kernel.defs Bits _ Cert.Kernel.Gen.facts = @Cert.KernelIdeal.defs Bits _ Cert.KernelIdeal.Gen.facts :=
  congrArg (Pipeline.defs (Cert.Kernel.pcfgs (F := Bits))) defs₀_eq

theorem frame_kernel : Cert.quiescent_Kernel := fun m ρ _ => by
  rw [defs_eq]
  exact run_quiet (F := Bits) m ρ

theorem frame_ideal : Cert.quiescent_KernelIdeal := fun m ρ _ => run_quiet (F := Ideal) m ρ

theorem frame_ideal_pre : Cert.quiescent_KernelIdeal_pre_routed_and_finite_KernelIdeal := fun m ρ _ => frame_ideal m ρ trivial

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_routed_and_finite_ReferenceIdeal := fun m ρ _ => frame_reference m ρ trivial

end Cert.MoE

end
-- ==== Proof.Mixture.lean ====
/-
The arithmetic of the mixture over the extended reals: a softmax of finite scores is positive and finite; the
two chosen experts' probabilities over their sum, spread over all 64 experts and summed with the experts'
products, are the two-term mixture.
-/
module

public import Idealize.ShloMosaic.PureOps.Ideal
public import Idealize.ShloMosaic.PureOps.Ideal.Laws
public import Mathlib.Data.EReal.Operations

@[expose] public section

noncomputable section

namespace Cert.MoE.Mix

open Idealize.ShloMosaic
open scoped BigOperators

/-- An extended real that is a real number; a positive one. -/
def Fin' (x : EReal) : Prop := ∃ r : ℝ, x = (r : EReal)
def Pos' (x : EReal) : Prop := ∃ r : ℝ, 0 < r ∧ x = (r : EReal)

theorem sum_fin {ι : Type*} (s : Finset ι) (f : ι → EReal) (hf : ∀ i, Fin' (f i)) : Fin' (∑ i ∈ s, f i) := by
  classical
  choose r hr using hf
  refine ⟨∑ i ∈ s, r i, ?_⟩
  induction s using Finset.induction_on with
  | empty => simp
  | insert a s ha ih => rw [Finset.sum_insert ha, Finset.sum_insert ha, ih, hr, EReal.coe_add]

theorem sum_pos {ι : Type*} (s : Finset ι) (hs : s.Nonempty) (f : ι → EReal) (hf : ∀ i, Pos' (f i)) : Pos' (∑ i ∈ s, f i) := by
  classical
  choose r hr using hf
  refine ⟨∑ i ∈ s, r i, Finset.sum_pos (fun i _ => (hr i).1) hs, ?_⟩
  clear hs
  induction s using Finset.induction_on with
  | empty => simp
  | insert a s ha ih => rw [Finset.sum_insert ha, Finset.sum_insert ha, ih, (hr a).2, EReal.coe_add]

theorem mul_fin {x y : EReal} (hx : Fin' x) (hy : Fin' y) : Fin' (x * y) := by
  obtain ⟨a, rfl⟩ := hx
  obtain ⟨b, rfl⟩ := hy
  exact ⟨a * b, (EReal.coe_mul a b).symm⟩

theorem div_real {y : ℝ} (h : y ≠ 0) (x : ℝ) : Ideal.div (x : EReal) (y : EReal) = ((x / y : ℝ) : EReal) := by
  rw [Ideal.div_coe h, ← EReal.coe_mul]
  congr 1
  ring

theorem div_pos {x y : EReal} (hx : Pos' x) (hy : Pos' y) : Pos' (Ideal.div x y) := by
  obtain ⟨a, ha, rfl⟩ := hx
  obtain ⟨b, hb, rfl⟩ := hy
  exact ⟨a / b, _root_.div_pos ha hb, div_real hb.ne' a⟩

theorem zero_div_pos {y : EReal} (hy : Pos' y) : Ideal.div 0 y = 0 := by
  obtain ⟨b, hb, rfl⟩ := hy
  have := div_real hb.ne' 0
  simpa using this

/-! ## The softmax -/

/-- A row's softmax: the exponentials of the scores less their maximum `M`, over their sum. -/
def soft (M : EReal) (s : Fin 64 → EReal) (j : Fin 64) : EReal := Ideal.div (Ideal.exp (s j - M)) (∑ x, Ideal.exp (s x - M))

theorem soft_pos {M : EReal} (hM : Fin' M) (s : Fin 64 → EReal) (hs : ∀ j, Fin' (s j)) (j : Fin 64) : Pos' (soft M s j) := by
  obtain ⟨μ, rfl⟩ := hM
  have he : ∀ x, Pos' (Ideal.exp (s x - (μ : EReal))) := fun x => by
    obtain ⟨r, hr⟩ := hs x
    exact ⟨Real.exp (r - μ), Real.exp_pos _, by rw [hr, ← EReal.coe_sub, Ideal.exp_coe]⟩
  exact div_pos (he j) (sum_pos _ Finset.univ_nonempty _ he)

/-- The maximum of finite scores, folded from −∞, is finite. -/
theorem max_fin (s : Fin 64 → EReal) (hs : ∀ j, Fin' (s j)) (b : EReal) (hb : b = ⊥) : Fin' (Finset.fold max b s Finset.univ) := by
  subst hb
  have h1 : Finset.fold max (⊥ : EReal) s Finset.univ < ⊤ :=
    Finset.fold_max_lt ⊤ |>.2 ⟨bot_lt_top, fun x _ => by obtain ⟨r, hr⟩ := hs x; rw [hr]; exact EReal.coe_lt_top r⟩
  have h2 : ⊥ < Finset.fold max (⊥ : EReal) s Finset.univ :=
    Finset.lt_fold_max ⊥ |>.2 (Or.inr ⟨0, Finset.mem_univ _, by obtain ⟨r, hr⟩ := hs 0; rw [hr]; exact EReal.bot_lt_coe r⟩)
  exact ⟨_, (EReal.coe_toReal h1.ne h2.ne').symm⟩

theorem neg_inf : Ideal.ofBits .f32 0xFF800000#32 = ⊥ := by
  simp [Ideal.ofBits, Ideal.ieee]

/-! ## The gates -/

/-- Expert `e`'s gate when experts `a` and `b` are chosen. -/
def gate (p : Fin 64 → EReal) (a b e : Fin 64) : EReal :=
  Ideal.div (if a = e ∨ b = e then p e else 0) (∑ x, if a = x ∨ b = x then p x else 0)

theorem chosen_sum_eq (p : Fin 64 → EReal) (a : Fin 64) : (∑ x, if a = x ∨ a = x then p x else 0) = p a := by
  rw [Fintype.sum_eq_single a (fun x hx => if_neg (by tauto))]
  exact if_pos (Or.inl rfl)

theorem chosen_sum_ne (p : Fin 64 → EReal) {a b : Fin 64} (h : a ≠ b) : (∑ x, if a = x ∨ b = x then p x else 0) = p a + p b := by
  rw [Fintype.sum_eq_add a b h (fun x hx => if_neg (by rintro (rfl | rfl) <;> tauto))]
  rw [if_pos (Or.inl rfl), if_pos (Or.inr rfl)]

theorem chosen_pos (p : Fin 64 → EReal) (hp : ∀ e, Pos' (p e)) (a b : Fin 64) : Pos' (∑ x, if a = x ∨ b = x then p x else 0) := by
  by_cases h : a = b
  · subst h
    rw [chosen_sum_eq]
    exact hp a
  · rw [chosen_sum_ne p h]
    obtain ⟨r, hr, e1⟩ := hp a
    obtain ⟨t, ht, e2⟩ := hp b
    exact ⟨r + t, add_pos hr ht, by rw [e1, e2, EReal.coe_add]⟩

theorem gate_other (p : Fin 64 → EReal) (hp : ∀ e, Pos' (p e)) {a b e : Fin 64} (h : ¬ (a = e ∨ b = e)) : gate p a b e = 0 := by
  unfold gate
  rw [if_neg h]
  exact zero_div_pos (chosen_pos p hp a b)

theorem gate_nonneg (p : Fin 64 → EReal) (hp : ∀ e, Pos' (p e)) (a b e : Fin 64) : 0 ≤ gate p a b e ∧ gate p a b e ≠ ⊤ := by
  by_cases h : a = e ∨ b = e
  · unfold gate
    rw [if_pos h]
    obtain ⟨r, hr, e1⟩ := div_pos (hp e) (chosen_pos p hp a b)
    rw [e1]
    exact ⟨EReal.coe_nonneg.2 hr.le, EReal.coe_ne_top r⟩
  · rw [gate_other p hp h]
    exact ⟨le_rfl, EReal.zero_ne_top⟩

/-- The gated sum over all experts is the mixture of the two chosen. -/
theorem gate_sum (p : Fin 64 → EReal) (hp : ∀ e, Pos' (p e)) (a b : Fin 64) (y : Fin 64 → EReal) :
    ∑ e, gate p a b e * y e = Ideal.div (p a) (p a + p b) * y a + Ideal.div (p b) (p a + p b) * y b := by
  by_cases h : a = b
  · subst h
    rw [Fintype.sum_eq_single a (fun x hx => by rw [gate_other p hp (by tauto), zero_mul])]
    unfold gate
    rw [chosen_sum_eq, if_pos (Or.inl rfl)]
    obtain ⟨r, hr, e⟩ := hp a
    rw [e, ← EReal.coe_add, div_real hr.ne', div_real (by positivity),
      ← EReal.right_distrib_of_nonneg (EReal.coe_nonneg.2 (by positivity)) (EReal.coe_nonneg.2 (by positivity)), ← EReal.coe_add]
    congr 2
    field_simp
  · rw [Fintype.sum_eq_add a b h (fun x hx => by rw [gate_other p hp (by rintro (rfl | rfl) <;> tauto), zero_mul])]
    unfold gate
    rw [chosen_sum_ne p h, if_pos (Or.inl rfl), if_pos (Or.inr rfl)]

/-- A nonnegative finite factor comes out of a sum. -/
theorem mul_sum_nonneg {ι : Type*} (s : Finset ι) (f : ι → EReal) {g : EReal} (h0 : 0 ≤ g) (ht : g ≠ ⊤) :
    ∑ i ∈ s, g * f i = g * ∑ i ∈ s, f i := by
  classical
  induction s using Finset.induction_on with
  | empty => simp
  | insert a s ha ih => rw [Finset.sum_insert ha, Finset.sum_insert ha, ih, EReal.left_distrib_of_nonneg_of_ne_top h0 ht]

/-- The four experts of each of sixteen devices are the 64 experts. -/
theorem sum_experts (f : Fin 64 → EReal) : ∑ c : Fin 16, ∑ k : Fin 4, f ⟨4 * c.val + k.val, by omega⟩ = ∑ e, f e := by
  rw [← Fintype.sum_prod_type' (f := fun (c : Fin 16) (k : Fin 4) => f ⟨4 * c.val + k.val, by omega⟩)]
  exact Fintype.sum_equiv (finProdFinEquiv (m := 16) (n := 4)) _ _ (fun x => congrArg f (Fin.ext (Nat.add_comm _ _)))

/-- The devices' gated products, added, are the two-expert mixture. -/
theorem devices_sum (p : Fin 64 → EReal) (hp : ∀ e, Pos' (p e)) (a b : Fin 64) (x : Fin 256 → EReal) (w : Fin 64 → Fin 256 → EReal) :
    ∑ c : Fin 16, ∑ k : Fin 4, ∑ d, (x d * gate p a b ⟨4 * c.val + k.val, by omega⟩) * w ⟨4 * c.val + k.val, by omega⟩ d
      = Ideal.div (p a) (p a + p b) * (∑ d, x d * w a d) + Ideal.div (p b) (p a + p b) * (∑ d, x d * w b d) := by
  rw [sum_experts (fun e => ∑ d, (x d * gate p a b e) * w e d), ← gate_sum p hp a b (fun e => ∑ d, x d * w e d)]
  refine Finset.sum_congr rfl fun e _ => ?_
  rw [← mul_sum_nonneg _ _ (gate_nonneg p hp a b e).1 (gate_nonneg p hp a b e).2]
  refine Finset.sum_congr rfl fun d _ => ?_
  rw [mul_comm (x d), mul_assoc]

end Cert.MoE.Mix

end
-- ==== Proof.Device.lean ====
/-
One device's accumulator at an entry: over its four experts, the token's gate for that expert times the token's
product with it.
-/
module

public import proofs.«01_k».proof.Proof.Result
public import Idealize.ShloMosaic.Lib.Pointwise
public import Idealize.ShloMosaic.Lib.Pipeline.Value
public import proofs.«01_k».proof.Proof.Mixture

@[expose] public section

set_option maxRecDepth 16384

noncomputable section

namespace Cert.MoE

open Idealize.ShloMosaic Idealize.ShloMosaic.TcCoe Idealize.SL.Sem
open Cert.KernelIdeal Cert.KernelIdeal.Gen
open scoped BigOperators

/-- A score and the largest score of a row. -/
def sc (X : FVec Ideal S1024x256 .bf16) (G : FVec Ideal S256x64 .bf16) (i : Fin 1024) (j : Fin 64) : EReal :=
  ∑ x : Fin 256, X (ix2 i x) * G (ix2 x j)
def top (X : FVec Ideal S1024x256 .bf16) (G : FVec Ideal S256x64 .bf16) (i : Fin 1024) : EReal :=
  Finset.fold max (Ideal.ofBits .f32 0xFF800000#32) (sc X G i) Finset.univ

/-- The kernel's probabilities are the softmax of the scores. -/
theorem prob_at (X : FVec Ideal S1024x256 .bf16) (G : FVec Ideal S256x64 .bf16) (i : Fin 1024) (j : Fin 64) :
    k0_pay3 (F := Ideal) X G (ix2 i j) = Mix.soft (top X G i) (sc X G i) j := by
  pointwise [k0_pay3, k0_pay2]
  rfl

/-- The number of a device's `k`-th expert, as a word. -/
theorem word_expert : ∀ (c : Dev nD) (k : Fin 4), Scalar.addi (Scalar.muli (devWord c) 4#32) (BitVec.ofNat 32 k.val) = BitVec.ofNat 32 (4 * c.val + k.val) := by
  decide

/-- Comparisons, or, and selection on words that are experts' numbers. -/
theorem cmp_eq (a x : Fin 64) : IntOp.cmpi .eq (BitVec.ofNat 32 a.val) (BitVec.ofNat 32 x.val) = if a = x then 1#1 else 0#1 := by
  revert a x
  decide

theorem ori_eq (p q : Prop) [Decidable p] [Decidable q] : IntOp.ori (if p then 1#1 else 0#1) (if q then 1#1 else 0#1) = if p ∨ q then 1#1 else 0#1 := by
  by_cases p <;> by_cases q <;> simp [*] <;> rfl

theorem select_if {α : Type} (p : Prop) [Decidable p] (x y : α) : Scalar.select (if p then 1#1 else 0#1) x y = if p then x else y := by
  by_cases p <;> simp [*] <;> rfl

/-- A row of the gates, the token's two experts named. -/
theorem gate_at (p : FVec Ideal S1024x64 .f32) (I : IVec S1024x2 32) (i : Fin 1024) (e a b : Fin 64)
    (ha : I (ix2 i 0) = BitVec.ofNat 32 a.val) (hb : I (ix2 i 1) = BitVec.ofNat 32 b.val) :
    k0_pay4 (F := Ideal) p (idxCol (F := Ideal) I 0) (idxCol (F := Ideal) I 1) (ix2 i e) = Mix.gate (fun x => p (ix2 i x)) a b e := by
  have h0 : idxCol (F := Ideal) I 0 (ix2 i 0) = BitVec.ofNat 32 a.val := ha
  have h1 : idxCol (F := Ideal) I 1 (ix2 i 0) = BitVec.ofNat 32 b.val := hb
  pointwise [k0_pay4]
  simp only [h0, h1, cmp_eq, ori_eq, select_if]
  rfl

/-- A sum that selects one expert. -/
theorem pick_sum (f : Fin 64 → EReal) (e : Fin 64) :
    ∑ x : Fin 64, Scalar.select (IntOp.cmpi .eq (BitVec.ofNat 32 x.val) (BitVec.ofNat 32 e.val)) (f x) 0 = f e := by
  simp only [cmp_eq, select_if]
  rw [Finset.sum_ite_eq' Finset.univ e f]
  simp

/-- The tokens and an expert's weights as the kernel reads them. -/
theorem pay2_at (X : FVec Ideal S1024x256 .bf16) (i : Fin 1024) (x : Fin 256) : k0_pay2 (F := Ideal) X (ix2 i x) = X (ix2 i x) := by
  pointwise [k0_pay2]

theorem expertW_at (W : FVec Ideal S4x256x512 .bf16) (k : Fin 4) (x : Fin 256) (j : Fin 512) :
    expertW (F := Ideal) W k (ix3 0 x j) = W (ix3 k x j) := rfl

/-- The accumulator at an entry. -/
theorem acc_at (c : Dev nD) (X : FVec Ideal S1024x256 .bf16) (G : FVec Ideal S256x64 .bf16) (I : IVec S1024x2 32) (W : FVec Ideal S4x256x512 .bf16)
    (i : Fin 1024) (j : Fin 512) (a b : Fin 64)
    (ha : I (ix2 i 0) = BitVec.ofNat 32 a.val) (hb : I (ix2 i 1) = BitVec.ofNat 32 b.val) :
    accOf (F := Ideal) c X G I W (ix2 i j) = ∑ k : Fin 4, ∑ d : Fin 256,
      (X (ix2 i d) * Mix.gate (Mix.soft (top X G i) (sc X G i)) a b ⟨4 * c.val + k.val, by have : c.val < 16 := c.isLt; omega⟩) * W (ix3 k d j) := by
  have hg : ∀ k : Fin 4, ∑ x : Fin 64, Scalar.select (IntOp.cmpi .eq (BitVec.ofNat 32 x.val) (Scalar.addi (Scalar.muli (devWord c) 4#32) (BitVec.ofNat 32 k.val)))
      (k0_pay4 (F := Ideal) (k0_pay3 (F := Ideal) X G) (idxCol (F := Ideal) I 0) (idxCol (F := Ideal) I 1) (ix2 i x)) 0
        = Mix.gate (Mix.soft (top X G i) (sc X G i)) a b ⟨4 * c.val + k.val, by have : c.val < 16 := c.isLt; omega⟩ := fun k => by
    rw [word_expert]
    refine (pick_sum (fun x => k0_pay4 (F := Ideal) (k0_pay3 (F := Ideal) X G) (idxCol (F := Ideal) I 0) (idxCol (F := Ideal) I 1) (ix2 i x)) ⟨4 * c.val + k.val, by have : c.val < 16 := c.isLt; omega⟩).trans ?_
    rw [gate_at _ I i _ a b ha hb]
    exact congrArg (fun p => Mix.gate p a b _) (funext fun x => prob_at X G i x)
  have h0 := hg 0
  have h1 := hg 1
  have h2 := hg 2
  have h3 := hg 3
  rw [Fin.sum_univ_four, ← h0, ← h1, ← h2, ← h3]
  pointwise [accOf, k0_pay7, k0_pay6, k0_pay5]
  simp only [pay2_at, expertW_at]

end Cert.MoE

end
-- ==== Proof.Total.lean ====
/-
The result at one entry: the two exchanges together sum the sixteen accumulators.
-/
module

public import proofs.«01_k».proof.Proof.Device

@[expose] public section

set_option maxRecDepth 16384

noncomputable section

namespace Cert.MoE

open Idealize.ShloMosaic Idealize.ShloMosaic.TcCoe Idealize.SL.Sem
open Cert.KernelIdeal Cert.KernelIdeal.Gen
open scoped BigOperators

variable (m : (ℓ : Loc nD τ sig) → Buf (Elt Ideal) ℓ)

/-- A device, then its row mates; then its column mates and theirs. -/
def order (c : Dev nD) : List (Dev nD) :=
  [c, mate (rowJ 0) c, mate (rowJ 1) c, mate (rowJ 2) c,
   mate (colJ 0) c, mate (rowJ 0) (mate (colJ 0) c), mate (rowJ 1) (mate (colJ 0) c), mate (rowJ 2) (mate (colJ 0) c),
   mate (colJ 1) c, mate (rowJ 0) (mate (colJ 1) c), mate (rowJ 1) (mate (colJ 1) c), mate (rowJ 2) (mate (colJ 1) c),
   mate (colJ 2) c, mate (rowJ 0) (mate (colJ 2) c), mate (rowJ 1) (mate (colJ 2) c), mate (rowJ 2) (mate (colJ 2) c)]

/-- These are all sixteen devices, each once. -/
theorem order_perm (c : Dev nD) : (order c).Perm (List.finRange 16) := by
  revert c
  decide +kernel

/-- A device's value and its row mates', added. -/
def rowSum (f : Dev nD → EReal) (c : Dev nD) : EReal := f c + f (mate (rowJ 0) c) + f (mate (rowJ 1) c) + f (mate (rowJ 2) c)

/-- Added along rows and then along a column, the values of all devices are summed. -/
theorem rowSum_col (f : Dev nD → EReal) (c : Dev nD) :
    rowSum f c + rowSum f (mate (colJ 0) c) + rowSum f (mate (colJ 1) c) + rowSum f (mate (colJ 2) c) = ∑ d : Dev nD, f d := by
  have h : ∑ d : Dev nD, f d = ((List.finRange 16).map f).sum := Fin.sum_univ_def f
  rw [h, ← ((order_perm c).map f).sum_eq]
  simp only [order, rowSum, List.map_cons, List.map_nil, List.sum_cons, List.sum_nil, add_zero, add_assoc]

/-- The row of the partial-result buffer that holds row `r` of the chunk for column `q`, row `z`. -/
theorem part_at (d : Dev nD) (q z : Fin 4) (r : Fin 64) (h : Fin 512) :
    part m d (ix2 ⟨256 * q.val + 64 * z.val + r.val, by omega⟩ h) = acc m d (ix2 ⟨64 * (4 * z.val + q.val) + r.val, by omega⟩ h) := by
  show k0_pay8 (F := Ideal) (acc m d) (ix2 (permRow _) h) = _
  have e : permRow ⟨256 * q.val + 64 * z.val + r.val, by omega⟩ = ⟨64 * (4 * z.val + q.val) + r.val, by omega⟩ := by
    apply Fin.ext
    show 64 * chunkOf (256 * q.val + 64 * z.val + r.val) + (256 * q.val + 64 * z.val + r.val) % 64 = 64 * (4 * z.val + q.val) + r.val
    unfold chunkOf
    omega
  refine (congrArg (fun t => k0_pay8 (F := Ideal) (acc m d) (ix2 t h)) e).trans ?_
  pointwise [k0_pay8]

/-- The same row, counted from the column's first. -/
theorem big_at (d : Dev nD) (q z : Fin 4) (r : Fin 64) (h : Fin 512) :
    big (part m d) q (ix2 ⟨64 * z.val + r.val, by omega⟩ h) = acc m d (ix2 ⟨64 * (4 * z.val + q.val) + r.val, by omega⟩ h) := by
  refine Eq.trans ?_ (part_at m d q z r h)
  exact congrArg (fun t => part m d (ix2 t h)) (Fin.ext (Nat.add_assoc _ _ _).symm)

/-- The device's own rows after the first exchange. -/
theorem sum1_at (d : Dev nD) (z : Fin 4) (r : Fin 64) (h : Fin 512) :
    sum1 m d (ix2 ⟨64 * z.val + r.val, by omega⟩ h)
      = rowSum (fun e => acc m e (ix2 ⟨64 * (4 * z.val + (qOf d).val) + r.val, by omega⟩ h)) d := by
  unfold sum1 rowSum
  dsimp only
  rw [← big_at m d, ← big_at m (mate (rowJ 0) d), ← big_at m (mate (rowJ 1) d), ← big_at m (mate (rowJ 2) d)]
  pointwise [k0_pay26]

/-- Those rows in the buffer, -/
theorem part1_at (d : Dev nD) (z : Fin 4) (r : Fin 64) (h : Fin 512) :
    part1 m d (ix2 ⟨256 * (qOf d).val + 64 * z.val + r.val, by omega⟩ h) = sum1 m d (ix2 ⟨64 * z.val + r.val, by omega⟩ h) := by
  refine (dif_pos (show 256 * (qOf d).val ≤ 256 * (qOf d).val + 64 * z.val + r.val
    ∧ 256 * (qOf d).val + 64 * z.val + r.val < 256 * (qOf d).val + 256 by omega)).trans ?_
  refine congrArg (fun t => sum1 m d (ix2 t h)) (Fin.ext ?_)
  show 256 * (qOf d).val + 64 * z.val + r.val - 256 * (qOf d).val = 64 * z.val + r.val
  omega

/-- and what a device of column `q` sends of them to a device of row `z`. -/
theorem small_at (d : Dev nD) (q z : Fin 4) (hq : qOf d = q) (r : Fin 64) (h : Fin 512) :
    small (part1 m d) q z (ix2 r h) = rowSum (fun e => acc m e (ix2 ⟨64 * (4 * z.val + q.val) + r.val, by omega⟩ h)) d := by
  subst hq
  exact (part1_at m d z r h).trans (sum1_at m d z r h)

/-- A device's rows of the result: the accumulators of all devices, summed. -/
theorem out_at (c : Dev nD) (r : Fin 64) (h : Fin 512) :
    outF m c (ix2 r h) = ∑ d : Dev nD, acc m d (ix2 ⟨64 * c.val + r.val, by have : c.val < 16 := c.isLt; omega⟩ h) := by
  have hc : 4 * (zOf c).val + (qOf c).val = c.val := Nat.div_add_mod c.val 4
  rw [← rowSum_col _ c]
  have hs : ∀ d : Dev nD, qOf d = qOf c → small (part1 m d) (qOf c) (zOf c) (ix2 r h)
      = rowSum (fun e => acc m e (ix2 ⟨64 * c.val + r.val, by have : c.val < 16 := c.isLt; omega⟩ h)) d := fun d hd => by
    refine (small_at m d (qOf c) (zOf c) hd r h).trans ?_
    refine congrArg (fun t => rowSum (fun e => acc m e (ix2 t h)) d) (Fin.ext ?_)
    show 64 * (4 * (zOf c).val + (qOf c).val) + r.val = _
    rw [hc]
  rw [← hs c rfl, ← hs _ (qOf_colMate 0 c), ← hs _ (qOf_colMate 1 c), ← hs _ (qOf_colMate 2 c)]
  unfold outF
  pointwise [k0_pay1]

end Cert.MoE

end
-- ==== Proof.RefTerm.lean ====
/-
The reference's result array as a composition of a few named steps.
-/
module

public import proofs.«01_k».proof.Proof.Gen.ReferenceIdeal.Run
public import Idealize.ShloMosaic.Lib.Pointwise
public import Idealize.ShloMosaic.Lib.Pipeline.Value
public import Idealize.ShloMosaic.PureOps.Ideal

@[expose] public section

set_option maxRecDepth 16384

noncomputable section

namespace Cert.MoE.Ref

open Idealize.ShloMosaic Idealize.ShloMosaic.TcCoe Idealize.SL.Sem
open Cert.ReferenceIdeal Cert.ReferenceIdeal.Gen Cert.ReferenceIdeal.Value
open scoped BigOperators

/-- The router's scores; -/
def score (X : FVec Ideal S1024x256 .bf16) (G : FVec Ideal S256x64 .bf16) : FVec Ideal S1024x64 .f32 :=
  Host.dotGeneral dot_S1024x256_S256x64_S1024x64_1_0_0_1_n_n none (extf .f32 X bitsLt_bf16_f32) (extf .f32 G bitsLt_bf16_f32)
/-- their exponentials, each row's maximum taken off; -/
def expo (s : FVec Ideal S1024x64 .f32) : FVec Ideal S1024x64 .f32 :=
  Host.exp (subf s (broadcastInDim S1024x64 ![0, 1] bcast_S1024x1_S1024x64_0_1 (broadcastInDim S1024x1 ![0] bcast_S1024_S1024x1_0
    (Host.reduce FloatOps.maximumf s (constant S_ .f32 0xFF800000#32) reducesTo_S1024x64_S1024_d1 h_S_))))
/-- the probabilities. -/
def prob (e : FVec Ideal S1024x64 .f32) : FVec Ideal S1024x64 .f32 :=
  Host.divf e (broadcastInDim S1024x64 ![0, 1] bcast_S1024x1_S1024x64_0_1 (broadcastInDim S1024x1 ![0] bcast_S1024_S1024x1_0
    (Host.reduceAdd e (constant S_ .f32 0x00000000#32) reducesTo_S1024x64_S1024_d1 h_S_)))
/-- The probabilities of a token's two experts; -/
def picked (p : FVec Ideal S1024x64 .f32) (I : IVec S1024x2 32) : FVec Ideal S1024x2 .f32 :=
  Host.gather gather_S1024x64_S1024x2x1_S1024x2_n_1_0_0_1_2_11 p
    (shapeCast _ (select (cmpi .slt I (broadcastInDim S1024x2 ![] bcast_S_S1024x2 (constantI S_ 32 0#32)))
      (addi I (broadcastInDim S1024x2 ![] bcast_S_S1024x2 (constantI S_ 32 64#32))) I) shapeCasts_S1024x2_S1024x2x1)
/-- the products of the tokens with their first expert, -/
def product0 (X : FVec Ideal S1024x256 .bf16) (I : IVec S1024x2 32) (W : FVec Ideal S64x256x512 .bf16) : FVec Ideal S1024x512 .f32 :=
  Host.dotGeneral dot_S1024x256_S1024x256x512_S1024x512_1_1_n_2_0_0 none (extf .f32 X bitsLt_bf16_f32)
    (Host.gather gather_S64x256x512_S1024x1_S1024x256x512_12_0_n_n_0_1_1256512 (extf .f32 W bitsLt_bf16_f32)
      (broadcastInDim S1024x1 ![0] bcast_S1024_S1024x1_0 (shapeCast _ (extractStridedSlice S1024x1 ![0, 0] I slices_S1024x2_S1024x1_0_0) shapeCasts_S1024x1_S1024)))
/-- and with their second. -/
def product1 (X : FVec Ideal S1024x256 .bf16) (I : IVec S1024x2 32) (W : FVec Ideal S64x256x512 .bf16) : FVec Ideal S1024x512 .f32 :=
  Host.dotGeneral dot_S1024x256_S1024x256x512_S1024x512_1_1_n_2_0_0 none (extf .f32 X bitsLt_bf16_f32)
    (Host.gather gather_S64x256x512_S1024x1_S1024x256x512_12_0_n_n_0_1_1256512 (extf .f32 W bitsLt_bf16_f32)
      (broadcastInDim S1024x1 ![0] bcast_S1024_S1024x1_0 (shapeCast _ (extractStridedSlice S1024x1 ![0, 1] I slices_S1024x2_S1024x1_0_1) shapeCasts_S1024x1_S1024)))
/-- One of a token's two weights, along its row of the result; -/
def weight (v w : FVec Ideal S1024x1 .f32) : FVec Ideal S1024x512 .f32 :=
  broadcastInDim S1024x512 ![0, 1] bcast_S1024x1_S1024x512_0_1 (Host.divf v w)
/-- the two products, weighted and added. -/
def mix (g : FVec Ideal S1024x2 .f32) (y0 y1 : FVec Ideal S1024x512 .f32) : FVec Ideal S1024x512 .f32 :=
  addf
    (mulf (weight (extractStridedSlice S1024x1 ![0, 0] g slices_S1024x2_S1024x1_0_0)
      (addf (extractStridedSlice S1024x1 ![0, 0] g slices_S1024x2_S1024x1_0_0) (extractStridedSlice S1024x1 ![0, 1] g slices_S1024x2_S1024x1_0_1))) y0)
    (mulf (weight (extractStridedSlice S1024x1 ![0, 1] g slices_S1024x2_S1024x1_0_1)
      (addf (extractStridedSlice S1024x1 ![0, 0] g slices_S1024x2_S1024x1_0_0) (extractStridedSlice S1024x1 ![0, 1] g slices_S1024x2_S1024x1_0_1))) y1)

variable (m : (ℓ : Loc nD τ sig) → Buf (Elt Ideal) ℓ) (c : Dev nD)

/-- The reference's result is these steps in turn. -/
theorem out_eq : res_main_v31 m c
    = mix (picked (prob (expo (score (m ((c.tc : Thread nD τ).loc main_arg0)) (m ((c.tc : Thread nD τ).loc main_arg1))))) (m ((c.tc : Thread nD τ).loc main_arg2)))
        (product0 (m ((c.tc : Thread nD τ).loc main_arg0)) (m ((c.tc : Thread nD τ).loc main_arg2)) (m ((c.tc : Thread nD τ).loc main_arg3)))
        (product1 (m ((c.tc : Thread nD τ).loc main_arg0)) (m ((c.tc : Thread nD τ).loc main_arg2)) (m ((c.tc : Thread nD τ).loc main_arg3))) := rfl

end Cert.MoE.Ref
end
-- ==== Proof.Reference.lean ====
/-
The reference's value at one entry: a token's two experts' products, weighted by their probabilities.
-/
module

public import proofs.«01_k».proof.Proof.RefTerm
public import Idealize.ShloMosaic.Lib.Pointwise
public import Idealize.ShloMosaic.Lib.Pipeline.Value
public import proofs.«01_k».proof.Proof.Mixture

@[expose] public section

set_option maxRecDepth 16384
noncomputable section
namespace Cert.MoE.Ref
open Idealize.ShloMosaic Idealize.ShloMosaic.TcCoe Idealize.SL.Sem
open Cert.ReferenceIdeal Cert.ReferenceIdeal.Gen Cert.ReferenceIdeal.Value
open scoped BigOperators

/-- Where the gather of the probabilities reads its start index, -/
theorem siIdx_p (i : Fin 1024) (k : Fin 2) (c) :
    (gather_S1024x64_S1024x2x1_S1024x2_n_1_0_0_1_2_11).siIdx (ix2 i k) c = ix3 i k (0 : Fin 1) := by
  funext b
  match b with
  | ⟨0, _⟩ => rfl
  | ⟨1, _⟩ => rfl
  | ⟨2, _⟩ => exact Fin.ext (Nat.lt_one_iff.1 c.isLt)

/-- and what it gives: the row's probability at the index, clamped to the table. -/
theorem gather_p {α : Type} (p : S1024x64.Idx → α) (idx : IVec S1024x2x1 32) (i : Fin 1024) (k : Fin 2) :
    Host.gather gather_S1024x64_S1024x2x1_S1024x2_n_1_0_0_1_2_11 p idx (ix2 i k)
      = p (ix2 i ⟨min (idx (ix3 i k (0 : Fin 1))).toInt.toNat 63, by omega⟩) := by
  unfold Host.gather
  refine congrArg p (funext fun a => Fin.ext ?_)
  match a with
  | ⟨0, _⟩ =>
    show 0 + i.val + 0 = i.val
    omega
  | ⟨1, _⟩ =>
    show min (idx (GatherDims.siIdx _ (ix2 i k) _)).toInt.toNat 63 + 0 + 0 = _
    rw [siIdx_p]
    rfl

/-- The same of the gather of the experts' weights. -/
theorem siIdx_w (i : Fin 1024) (x : Fin 256) (h : Fin 512) (c) :
    (gather_S64x256x512_S1024x1_S1024x256x512_12_0_n_n_0_1_1256512).siIdx (ix3 i x h) c = ix2 i (0 : Fin 1) := by
  funext b
  match b with
  | ⟨0, _⟩ => rfl
  | ⟨1, _⟩ => exact Fin.ext (Nat.lt_one_iff.1 c.isLt)

theorem gather_w {α : Type} (W : S64x256x512.Idx → α) (idx : IVec S1024x1 32) (i : Fin 1024) (x : Fin 256) (h : Fin 512) :
    Host.gather gather_S64x256x512_S1024x1_S1024x256x512_12_0_n_n_0_1_1256512 W idx (ix3 i x h)
      = W (ix3 ⟨min (idx (ix2 i (0 : Fin 1))).toInt.toNat 63, by omega⟩ x h) := by
  unfold Host.gather
  refine congrArg W (funext fun a => Fin.ext ?_)
  match a with
  | ⟨0, _⟩ =>
    show min (idx (GatherDims.siIdx _ (ix3 i x h) _)).toInt.toNat 63 + 0 + 0 = _
    rw [siIdx_w]
    rfl
  | ⟨1, _⟩ => exact Nat.zero_add _
  | ⟨2, _⟩ => exact Nat.zero_add _

/-- An expert's number, read back from the routing table as a start index, clamped or first wrapped. -/
theorem clamp_word (e : Fin 64) : min (BitVec.ofNat 32 e.val).toInt.toNat 63 = e.val := by
  revert e
  decide

theorem wrap_word (e : Fin 64) :
    min (Scalar.select (IntOp.cmpi .slt (BitVec.ofNat 32 e.val) 0#32) (IntOp.addi (BitVec.ofNat 32 e.val) 64#32) (BitVec.ofNat 32 e.val)).toInt.toNat 63
      = e.val := by
  revert e
  decide

/-- The probability picked for a token's `k`-th expert. -/
theorem picked_at (p : FVec Ideal S1024x64 .f32) (I : IVec S1024x2 32) (i : Fin 1024) (k : Fin 2) (e : Fin 64)
    (he : I (ix2 i k) = BitVec.ofNat 32 e.val) : picked p I (ix2 i k) = p (ix2 i e) := by
  unfold picked
  rw [gather_p]
  pointwise
  refine congrArg (fun j => p (ix2 i j)) (Fin.ext ?_)
  simp only [he]
  exact wrap_word e

/-- A token's product with its first expert, -/
theorem product0_at (X : FVec Ideal S1024x256 .bf16) (I : IVec S1024x2 32) (W : FVec Ideal S64x256x512 .bf16) (i : Fin 1024) (k : Fin 512) (e : Fin 64)
    (he : I (ix2 i 0) = BitVec.ofNat 32 e.val) : product0 X I W (ix2 i k) = ∑ x, X (ix2 i x) * W (ix3 e x k) := by
  pointwise [product0]
  simp only [gather_w]
  pointwise
  refine Finset.sum_congr rfl fun x _ => congrArg (fun j => X (ix2 i x) * W (ix3 j x k)) (Fin.ext ?_)
  simp only [he]
  exact clamp_word e

/-- and with its second. -/
theorem product1_at (X : FVec Ideal S1024x256 .bf16) (I : IVec S1024x2 32) (W : FVec Ideal S64x256x512 .bf16) (i : Fin 1024) (k : Fin 512) (e : Fin 64)
    (he : I (ix2 i 1) = BitVec.ofNat 32 e.val) : product1 X I W (ix2 i k) = ∑ x, X (ix2 i x) * W (ix3 e x k) := by
  pointwise [product1]
  simp only [gather_w]
  pointwise
  refine Finset.sum_congr rfl fun x _ => congrArg (fun j => X (ix2 i x) * W (ix3 j x k)) (Fin.ext ?_)
  simp only [he]
  exact clamp_word e

/-- The mixture at an entry. -/
theorem mix_at (g : FVec Ideal S1024x2 .f32) (y0 y1 : FVec Ideal S1024x512 .f32) (i : Fin 1024) (k : Fin 512) :
    mix g y0 y1 (ix2 i k) = Ideal.div (g (ix2 i 0)) (g (ix2 i 0) + g (ix2 i 1)) * y0 (ix2 i k)
      + Ideal.div (g (ix2 i 1)) (g (ix2 i 0) + g (ix2 i 1)) * y1 (ix2 i k) := by
  pointwise [mix, weight]

/-- A score and the largest score of a row. -/
def sc (X : FVec Ideal S1024x256 .bf16) (G : FVec Ideal S256x64 .bf16) (i : Fin 1024) (j : Fin 64) : EReal :=
  ∑ x : Fin 256, X (ix2 i x) * G (ix2 x j)
def top (X : FVec Ideal S1024x256 .bf16) (G : FVec Ideal S256x64 .bf16) (i : Fin 1024) : EReal :=
  Finset.fold max (Ideal.ofBits .f32 0xFF800000#32) (sc X G i) Finset.univ

/-- The probabilities are the softmax of the scores. -/
theorem prob_at (X : FVec Ideal S1024x256 .bf16) (G : FVec Ideal S256x64 .bf16) (i : Fin 1024) (j : Fin 64) :
    prob (expo (score X G)) (ix2 i j) = Mix.soft (top X G i) (sc X G i) j := by
  pointwise [prob, expo, score]
  rfl

/-- The reference's entry, its two experts named. -/
def entry (X : FVec Ideal S1024x256 .bf16) (G : FVec Ideal S256x64 .bf16) (W : FVec Ideal S64x256x512 .bf16)
    (a b : Fin 64) (i : Fin 1024) (k : Fin 512) : EReal :=
  let p := Mix.soft (top X G i) (sc X G i)
  Ideal.div (p a) (p a + p b) * (∑ x : Fin 256, X (ix2 i x) * W (ix3 a x k))
    + Ideal.div (p b) (p a + p b) * (∑ x : Fin 256, X (ix2 i x) * W (ix3 b x k))

theorem mix_entry (X : FVec Ideal S1024x256 .bf16) (G : FVec Ideal S256x64 .bf16) (I : IVec S1024x2 32) (W : FVec Ideal S64x256x512 .bf16)
    (i : Fin 1024) (k : Fin 512) (a b : Fin 64) (ha : I (ix2 i 0) = BitVec.ofNat 32 a.val) (hb : I (ix2 i 1) = BitVec.ofNat 32 b.val) :
    mix (picked (prob (expo (score X G))) I) (product0 X I W) (product1 X I W) (ix2 i k) = entry X G W a b i k := by
  rw [mix_at, picked_at _ I i 0 a ha, picked_at _ I i 1 b hb, product0_at X I W i k a ha, product1_at X I W i k b hb, prob_at, prob_at]
  rfl

end Cert.MoE.Ref

end
-- ==== Proof.Condition.lean ====
/-
What the precondition says: every routing entry is an expert's number, and the tokens and the router's weights are
finite.
-/
module

public import proofs.«01_k».proof.Defs
public import proofs.«01_k».proof.Proof.Gen.Pre_routed_and_finite_KernelIdeal
public import proofs.«01_k».proof.Proof.Mixture
public import Idealize.ShloMosaic.Lib.ReduceAll
public import Idealize.ShloMosaic.Lib.Affine
public import Idealize.ShloMosaic.Lib.Pointwise

@[expose] public section

noncomputable section

namespace Cert.MoE.Cond

open Idealize.ShloMosaic
open Cert.Pre_routed_and_finite_KernelIdeal

theorem and_one {a b : BitVec 1} (h : IntOp.andi a b = 1#1) : a = 1#1 ∧ b = 1#1 := IntOp.andi_eq_one.1 h

theorem prop_of_bit {p : Prop} [Decidable p] (h : BitVec.ofBool (decide p) = 1#1) : p := by
  by_contra hp
  rw [decide_eq_false hp] at h
  exact absurd h (by decide)

/-- The bounds the finiteness tests compare against. -/
theorem bound_lo : Ideal.ofBits .bf16 0xFF80#16 = ⊥ := by
  simp [Ideal.ofBits, Ideal.ieee]
theorem bound_hi : Ideal.ofBits .bf16 0x7F80#16 = ⊤ := by
  simp [Ideal.ofBits, Ideal.ieee]

/-- Passing both tests is being finite. -/
theorem fin_of_tests {x : EReal} (h : IntOp.andi (Ideal.cmp .ogt x (Ideal.ofBits .bf16 0xFF80#16)) (Ideal.cmp .olt x (Ideal.ofBits .bf16 0x7F80#16)) = 1#1) :
    Mix.Fin' x := by
  rw [bound_lo, bound_hi] at h
  have hl : ⊥ < x := prop_of_bit (and_one h).1
  have hh : x < ⊤ := prop_of_bit (and_one h).2
  exact ⟨_, (EReal.coe_toReal hh.ne hl.ne').symm⟩

/-- Passing both range tests is being an expert's number. -/
theorem expert_of_tests {w : BitVec 32} (h : IntOp.andi (IntOp.cmpi .sge w 0#32) (IntOp.cmpi .slt w 64#32) = 1#1) :
    ∃ e : Fin 64, w = BitVec.ofNat 32 e.val := by
  have h0 : (0#32 : BitVec 32).toInt ≤ w.toInt := IntOp.cmpi_sge.1 (and_one h).1
  have h1 : w.toInt < (64#32 : BitVec 32).toInt := IntOp.cmpi_slt.1 (and_one h).2
  have e0 : (0#32 : BitVec 32).toInt = 0 := by decide
  have e1 : (64#32 : BitVec 32).toInt = 64 := by decide
  rw [e0] at h0
  rw [e1] at h1
  have hn : w.toNat < 64 := by
    rw [BitVec.toInt_eq_toNat_cond] at h0 h1
    have := w.isLt
    split at h0 <;> omega
  exact ⟨⟨w.toNat, hn⟩, by simp⟩

/-- The precondition, read. -/
theorem decode (X : FVec Ideal S1024x256 .bf16) (G : FVec Ideal S256x64 .bf16) (I : IVec S1024x2 32) (W : FVec Ideal S4x256x512 .bf16)
    (h : fn (F := Ideal) X G I W = fun _ => 1#1) :
    (∀ i, Mix.Fin' (X i)) ∧ (∀ i, Mix.Fin' (G i)) ∧ (∀ i, ∃ e : Fin 64, I i = BitVec.ofNat 32 e.val) := by
  dsimp only [fn, fn_part1] at h
  have hs : ∀ i, _ := fun i => and_one (congrFun h i)
  refine ⟨fun i => ?_, fun i => ?_, fun i => ?_⟩
  · have h1 := (and_one (hs (ix2 0 0)).1).2
    exact fin_of_tests (Host.reduce_andi_all _ _ _ _ _ h1 i)
  · have h1 := (hs (ix2 0 0)).2
    exact fin_of_tests (Host.reduce_andi_all _ _ _ _ _ h1 i)
  · exact expert_of_tests (and_one (hs i).1).1

end Cert.MoE.Cond

end
-- ==== Proof.Value.lean ====
/-
The value claim: on inputs that meet the precondition every device ends with its 64 rows of the reference's result.
-/
module

public import proofs.«01_k».proof.Defs
public import proofs.«01_k».proof.Proof.Total
public import proofs.«01_k».proof.Proof.Reference
public import proofs.«01_k».proof.Proof.Condition
public import Idealize.ShloMosaic.Lib.Layout
public import Idealize.ShloMosaic.Lib.LayoutAt

@[expose] public section

set_option maxRecDepth 16384

noncomputable section

namespace Cert.MoE

open Idealize.ShloMosaic Idealize.ShloMosaic.TcCoe Idealize.SL.Sem
open Cert.KernelIdeal Cert.KernelIdeal.Gen
open scoped BigOperators

/-- Both programs' scores and maxima are the same expressions. -/
theorem sc_eq (X : FVec Ideal S1024x256 .bf16) (G : FVec Ideal S256x64 .bf16) (i : Fin 1024) : sc X G i = Ref.sc X G i := rfl
theorem top_eq (X : FVec Ideal S1024x256 .bf16) (G : FVec Ideal S256x64 .bf16) (i : Fin 1024) : top X G i = Ref.top X G i := rfl

/-- The experts' probabilities of a token are positive and finite when tokens and router are finite. -/
theorem soft_pos (X : FVec Ideal S1024x256 .bf16) (G : FVec Ideal S256x64 .bf16) (hX : ∀ i, Mix.Fin' (X i)) (hG : ∀ i, Mix.Fin' (G i))
    (i : Fin 1024) (e : Fin 64) : Mix.Pos' (Mix.soft (top X G i) (sc X G i) e) := by
  have hs : ∀ j, Mix.Fin' (sc X G i j) := fun j => Mix.sum_fin _ _ fun x => Mix.mul_fin (hX _) (hG _)
  exact Mix.soft_pos (Mix.max_fin _ hs _ Mix.neg_inf) _ hs e

/-- A block of the experts' weights, of the result, at an entry. -/
theorem block_w (V : (⟨3, ![64, 256, 512]⟩ : Shape).Idx → EReal) (c : Fin 16) (k : Fin 4) (d : Fin 256) (h : Fin 512) :
    Layout.block ⟨3, ![4, 256, 512]⟩ ⟨3, ![64, 256, 512]⟩ 0 16 c V (by decide) (ix3 k d h) = V (ix3 ⟨4 * c.val + k.val, by omega⟩ d h) := by
  rw [Layout.block_apply]
  refine congrArg V (funext fun b => Fin.ext ?_)
  match b with
  | ⟨0, _⟩ => exact congrArg (· + k.val) (Nat.mul_comm c.val 4)
  | ⟨1, _⟩ => rfl
  | ⟨2, _⟩ => rfl

theorem block_o (V : (⟨2, ![1024, 512]⟩ : Shape).Idx → EReal) (c : Fin 16) (r : Fin 64) (h : Fin 512) :
    Layout.block ⟨2, ![64, 512]⟩ ⟨2, ![1024, 512]⟩ 0 16 c V (by decide) (ix2 r h) = V (ix2 ⟨64 * c.val + r.val, by omega⟩ h) := by
  rw [Layout.block_apply]
  refine congrArg V (funext fun b => Fin.ext ?_)
  match b with
  | ⟨0, _⟩ => exact congrArg (· + r.val) (Nat.mul_comm c.val 64)
  | ⟨1, _⟩ => rfl

/-- The accumulators of all devices, summed at an entry, are the reference's mixture there. -/
theorem total_eq (X : FVec Ideal S1024x256 .bf16) (G : FVec Ideal S256x64 .bf16) (I : IVec S1024x2 32)
    (V : (⟨3, ![64, 256, 512]⟩ : Shape).Idx → EReal) (hX : ∀ i, Mix.Fin' (X i)) (hG : ∀ i, Mix.Fin' (G i))
    (i : Fin 1024) (h : Fin 512) (a b : Fin 64) (ha : I (ix2 i 0) = BitVec.ofNat 32 a.val) (hb : I (ix2 i 1) = BitVec.ofNat 32 b.val) :
    ∑ d : Dev nD, accOf (F := Ideal) d X G I (Layout.block ⟨3, ![4, 256, 512]⟩ ⟨3, ![64, 256, 512]⟩ 0 16 d V (by decide)) (ix2 i h)
      = Ref.entry X G V a b i h := by
  refine Eq.trans ?_ (Mix.devices_sum (Mix.soft (top X G i) (sc X G i)) (soft_pos X G hX hG i) a b (fun d => X (ix2 i d))
    (fun e d => V (ix3 e d h)))
  refine Finset.sum_congr rfl fun c _ => ?_
  rw [acc_at c X G I _ i h a b ha hb]
  refine Finset.sum_congr rfl fun k _ => Finset.sum_congr rfl fun d _ => ?_
  exact congrArg _ (block_w V c k d h)

/-- The value claim. -/
theorem value : Cert.algebraic_KernelIdeal_ReferenceIdeal_pre_routed_and_finite_KernelIdeal := by
  intro m g m' g' hpre hag
  refine ⟨Cert.ReferenceIdeal.Value.res_main_v31 (F := Ideal) m' 0, ?_, ?_⟩
  · refine (θ_run Cert.KernelIdeal.defs _ _).mono (fun _ hr c => ⟨(hr.1 c).1.trans ?_, (hr.1 c).2⟩) (run_arrays (F := Ideal) m g)
    obtain ⟨hX, hG, hI⟩ := Cond.decode _ _ _ _ (hpre 0)
    rw [(hag 0).1] at hX
    rw [(hag 0).2.1] at hG
    rw [(hag 0).2.2.1] at hI
    have hacc : ∀ d : Dev nD, acc m d = accOf (F := Ideal) d (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (Layout.block ⟨3, ![4, 256, 512]⟩ ⟨3, ![64, 256, 512]⟩ 0 16 d (m' (((0 : Dev Cert.ReferenceIdeal.nD).tc : Thread Cert.ReferenceIdeal.nD Cert.ReferenceIdeal.τ).loc Cert.ReferenceIdeal.main_arg3)) (by decide)) := fun d => by
      unfold acc
      rw [stgX_eq, stgG_eq, stgI_eq, stgW_eq, (hag d).1, (hag d).2.1, (hag d).2.2.1, (hag d).2.2.2]
    funext j
    obtain ⟨r, h, rfl⟩ : ∃ (r : Fin 64) (h : Fin 512), j = ix2 r h := ⟨j 0, j 1, (ix2_eta j).symm⟩
    obtain ⟨a, ha⟩ := hI (ix2 ⟨64 * c.val + r.val, by have : c.val < 16 := c.isLt; omega⟩ 0)
    obtain ⟨b, hb⟩ := hI (ix2 ⟨64 * c.val + r.val, by have : c.val < 16 := c.isLt; omega⟩ 1)
    refine (out_at m c r h).trans ?_
    refine Eq.trans ?_ (block_o _ c r h).symm
    rw [Ref.out_eq, Ref.mix_entry _ _ _ _ _ h a b ha hb, ← total_eq _ _ _ _ hX hG _ h a b ha hb]
    exact Finset.sum_congr rfl fun d _ => congrFun (hacc d) _
  · exact (θ_run Cert.ReferenceIdeal.defs _ _).mono (fun _ h => h 0) (Cert.ReferenceIdeal.Value.run (F := Ideal) m' g')

end Cert.MoE

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_and_finite_KernelIdeal
public import proofs.«01_k».proof.Proof.Gen.Pre_routed_and_finite_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_routed_and_finite_KernelIdeal.Gen.facts, Cert.Pre_routed_and_finite_ReferenceIdeal.Gen.facts,
  Cert.MoE.frame_kernel, Cert.MoE.frame_ideal, Cert.MoE.frame_ideal_pre, Cert.MoE.frame_reference, Cert.MoE.frame_reference_pre,
  trivial, Cert.MoE.value⟩

end Cert.Proof

end
